-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 256]⟩ ⟨2, ![2048, 2048]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 2048]⟩ ⟨2, ![2048, 2048]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v4) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x256 : Shape := ⟨2, ![2048, 256]⟩
abbrev S2048x2048 : Shape := ⟨2, ![2048, 2048]⟩
abbrev S256x2048 : Shape := ⟨2, ![256, 2048]⟩
abbrev S8x256x256 : Shape := ⟨3, ![8, 256, 256]⟩
abbrev S8 : Shape := ⟨1, ![8]⟩
abbrev S_ : Shape := ⟨0, ![]⟩
abbrev S256x256 : Shape := ⟨2, ![256, 256]⟩
abbrev S1x256x256 : Shape := ⟨3, ![1, 256, 256]⟩
abbrev S1 : Shape := ⟨1, ![1]⟩

abbrev nBuf : Space → Nat
  | .hbm => 3
  | .vmem => 5
  | .smem => 0
  | _ => 0

abbrev bufTy : (tb : Table) → Fin (tcTables nBuf tb) → BufTy
  | .hbm, ⟨0, _⟩ => ⟨S2048x256, .bf16⟩
  | .hbm, ⟨1, _⟩ => ⟨S2048x2048, .bf16⟩
  | .hbm, ⟨2, _⟩ => ⟨S256x2048, .f32⟩
  | .local _ .vmem, ⟨0, _⟩ => ⟨S2048x256, .bf16⟩
  | .local _ .vmem, ⟨1, _⟩ => ⟨S2048x2048, .bf16⟩
  | .local _ .vmem, ⟨2, _⟩ => ⟨S256x2048, .f32⟩
  | .local _ .vmem, ⟨3, _⟩ => ⟨S8x256x256, .bf16⟩
  | .local _ .vmem, ⟨4, _⟩ => ⟨S8x256x256, .bf16⟩
  | _, _ => ⟨S2048x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  (ofTc nBuf bufTy 1 19 bufScoped semScoped dmaSemScoped tileCredit tileCredit_eq_zero tileCredit_pos).withBarriers [(5, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2
abbrev barrier5 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let v5 : BitVec 32 := Scalar.remsi v4 c8_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.addi v2 c2_i32
  let c8_i32_4 : BitVec 32 := 8#32
  let v9 : BitVec 32 := Scalar.remsi v8 c8_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v12 : BitVec 32 := Scalar.addi v2 c3_i32
  let c8_i32_8 : BitVec 32 := 8#32
  let v13 : BitVec 32 := Scalar.remsi v12 c8_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 32 := Scalar.addi v2 c4_i32
  let c8_i32_12 : BitVec 32 := 8#32
  let v17 : BitVec 32 := Scalar.remsi v16 c8_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v20 : BitVec 32 := Scalar.addi v2 c5_i32
  let c8_i32_16 : BitVec 32 := 8#32
  let v21 : BitVec 32 := Scalar.remsi v20 c8_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v24 : BitVec 32 := Scalar.addi v2 c6_i32
  let c8_i32_20 : BitVec 32 := 8#32
  let v25 : BitVec 32 := Scalar.remsi v24 c8_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v28 : BitVec 32 := Scalar.addi v2 c7_i32
  let c8_i32_24 : BitVec 32 := 8#32
  let v29 : BitVec 32 := Scalar.remsi v28 c8_i32_24
  let c1_i32_26 : BitVec 32 := 1#32
  let v30 : BitVec 32 := Scalar.muli v29 c1_i32_26
  let v31 : BitVec 32 := Scalar.addi c0_i32_27 v30
  v31.toNat
def k0_off1 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off2 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_62 : BitVec 32 := 0#32
  let c0_i32_63 : BitVec 32 := 0#32
  ![v2.toNat, 0, 0]
def k0_off3 (d0 : Dev nD) (c1_i32_56 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_54 : BitVec 32 := 1#32
  let v72 : BitVec 32 := Scalar.shrui v2 c1_i32_54
  let c1_i32_55 : BitVec 32 := 1#32
  let v73 : BitVec 32 := Scalar.andi v72 c1_i32_55
  let v74 : BitVec 32 := Scalar.xori v2 v73
  let v75 : BitVec 32 := Scalar.xori v74 c1_i32_56
  let c1_i32_57 : BitVec 32 := 1#32
  let v76 : BitVec 32 := Scalar.shrui v75 c1_i32_57
  let c1_i32_58 : BitVec 32 := 1#32
  let v77 : BitVec 32 := Scalar.andi v76 c1_i32_58
  let v78 : BitVec 32 := Scalar.xori v75 v77
  let c0_i32_64 : BitVec 32 := 0#32
  let c0_i32_65 : BitVec 32 := 0#32
  ![v78.toNat, 0, 0]
def k0_dev8 (d0 : Dev nD) : Nat :=
  let c0_i32_61 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_54 : BitVec 32 := 1#32
  let v72 : BitVec 32 := Scalar.shrui v2 c1_i32_54
  let c1_i32_55 : BitVec 32 := 1#32
  let v73 : BitVec 32 := Scalar.andi v72 c1_i32_55
  let v74 : BitVec 32 := Scalar.xori v2 v73
  let c1_i32_56 : BitVec 32 := 1#32
  let v75 : BitVec 32 := Scalar.xori v74 c1_i32_56
  let c1_i32_57 : BitVec 32 := 1#32
  let v76 : BitVec 32 := Scalar.shrui v75 c1_i32_57
  let c1_i32_58 : BitVec 32 := 1#32
  let v77 : BitVec 32 := Scalar.andi v76 c1_i32_58
  let v78 : BitVec 32 := Scalar.xori v75 v77
  let c1_i32_60 : BitVec 32 := 1#32
  let v79 : BitVec 32 := Scalar.muli v78 c1_i32_60
  let v80 : BitVec 32 := Scalar.addi c0_i32_61 v79
  v80.toNat
def k0_dev9 (d0 : Dev nD) : Nat :=
  let c0_i32_73 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_66 : BitVec 32 := 1#32
  let v87 : BitVec 32 := Scalar.shrui v2 c1_i32_66
  let c1_i32_67 : BitVec 32 := 1#32
  let v88 : BitVec 32 := Scalar.andi v87 c1_i32_67
  let v89 : BitVec 32 := Scalar.xori v2 v88
  let c2_i32_68 : BitVec 32 := 2#32
  let v90 : BitVec 32 := Scalar.xori v89 c2_i32_68
  let c1_i32_69 : BitVec 32 := 1#32
  let v91 : BitVec 32 := Scalar.shrui v90 c1_i32_69
  let c1_i32_70 : BitVec 32 := 1#32
  let v92 : BitVec 32 := Scalar.andi v91 c1_i32_70
  let v93 : BitVec 32 := Scalar.xori v90 v92
  let c1_i32_72 : BitVec 32 := 1#32
  let v94 : BitVec 32 := Scalar.muli v93 c1_i32_72
  let v95 : BitVec 32 := Scalar.addi c0_i32_73 v94
  v95.toNat
def k0_dev10 (d0 : Dev nD) : Nat :=
  let c0_i32_85 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_78 : BitVec 32 := 1#32
  let v102 : BitVec 32 := Scalar.shrui v2 c1_i32_78
  let c1_i32_79 : BitVec 32 := 1#32
  let v103 : BitVec 32 := Scalar.andi v102 c1_i32_79
  let v104 : BitVec 32 := Scalar.xori v2 v103
  let c4_i32_80 : BitVec 32 := 4#32
  let v105 : BitVec 32 := Scalar.xori v104 c4_i32_80
  let c1_i32_81 : BitVec 32 := 1#32
  let v106 : BitVec 32 := Scalar.shrui v105 c1_i32_81
  let c1_i32_82 : BitVec 32 := 1#32
  let v107 : BitVec 32 := Scalar.andi v106 c1_i32_82
  let v108 : BitVec 32 := Scalar.xori v105 v107
  let c1_i32_84 : BitVec 32 := 1#32
  let v109 : BitVec 32 := Scalar.muli v108 c1_i32_84
  let v110 : BitVec 32 := Scalar.addi c0_i32_85 v109
  v110.toNat
def k0_dev11 (d0 : Dev nD) : Nat :=
  let c0_i32_97 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_90 : BitVec 32 := 1#32
  let v117 : BitVec 32 := Scalar.shrui v2 c1_i32_90
  let c1_i32_91 : BitVec 32 := 1#32
  let v118 : BitVec 32 := Scalar.andi v117 c1_i32_91
  let v119 : BitVec 32 := Scalar.xori v2 v118
  let c3_i32_92 : BitVec 32 := 3#32
  let v120 : BitVec 32 := Scalar.xori v119 c3_i32_92
  let c1_i32_93 : BitVec 32 := 1#32
  let v121 : BitVec 32 := Scalar.shrui v120 c1_i32_93
  let c1_i32_94 : BitVec 32 := 1#32
  let v122 : BitVec 32 := Scalar.andi v121 c1_i32_94
  let v123 : BitVec 32 := Scalar.xori v120 v122
  let c1_i32_96 : BitVec 32 := 1#32
  let v124 : BitVec 32 := Scalar.muli v123 c1_i32_96
  let v125 : BitVec 32 := Scalar.addi c0_i32_97 v124
  v125.toNat
def k0_dev12 (d0 : Dev nD) : Nat :=
  let c0_i32_109 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_102 : BitVec 32 := 1#32
  let v132 : BitVec 32 := Scalar.shrui v2 c1_i32_102
  let c1_i32_103 : BitVec 32 := 1#32
  let v133 : BitVec 32 := Scalar.andi v132 c1_i32_103
  let v134 : BitVec 32 := Scalar.xori v2 v133
  let c5_i32_104 : BitVec 32 := 5#32
  let v135 : BitVec 32 := Scalar.xori v134 c5_i32_104
  let c1_i32_105 : BitVec 32 := 1#32
  let v136 : BitVec 32 := Scalar.shrui v135 c1_i32_105
  let c1_i32_106 : BitVec 32 := 1#32
  let v137 : BitVec 32 := Scalar.andi v136 c1_i32_106
  let v138 : BitVec 32 := Scalar.xori v135 v137
  let c1_i32_108 : BitVec 32 := 1#32
  let v139 : BitVec 32 := Scalar.muli v138 c1_i32_108
  let v140 : BitVec 32 := Scalar.addi c0_i32_109 v139
  v140.toNat
def k0_dev13 (d0 : Dev nD) : Nat :=
  let c0_i32_121 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_114 : BitVec 32 := 1#32
  let v147 : BitVec 32 := Scalar.shrui v2 c1_i32_114
  let c1_i32_115 : BitVec 32 := 1#32
  let v148 : BitVec 32 := Scalar.andi v147 c1_i32_115
  let v149 : BitVec 32 := Scalar.xori v2 v148
  let c6_i32_116 : BitVec 32 := 6#32
  let v150 : BitVec 32 := Scalar.xori v149 c6_i32_116
  let c1_i32_117 : BitVec 32 := 1#32
  let v151 : BitVec 32 := Scalar.shrui v150 c1_i32_117
  let c1_i32_118 : BitVec 32 := 1#32
  let v152 : BitVec 32 := Scalar.andi v151 c1_i32_118
  let v153 : BitVec 32 := Scalar.xori v150 v152
  let c1_i32_120 : BitVec 32 := 1#32
  let v154 : BitVec 32 := Scalar.muli v153 c1_i32_120
  let v155 : BitVec 32 := Scalar.addi c0_i32_121 v154
  v155.toNat
def k0_dev14 (d0 : Dev nD) : Nat :=
  let c0_i32_133 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_126 : BitVec 32 := 1#32
  let v162 : BitVec 32 := Scalar.shrui v2 c1_i32_126
  let c1_i32_127 : BitVec 32 := 1#32
  let v163 : BitVec 32 := Scalar.andi v162 c1_i32_127
  let v164 : BitVec 32 := Scalar.xori v2 v163
  let c7_i32_128 : BitVec 32 := 7#32
  let v165 : BitVec 32 := Scalar.xori v164 c7_i32_128
  let c1_i32_129 : BitVec 32 := 1#32
  let v166 : BitVec 32 := Scalar.shrui v165 c1_i32_129
  let c1_i32_130 : BitVec 32 := 1#32
  let v167 : BitVec 32 := Scalar.andi v166 c1_i32_130
  let v168 : BitVec 32 := Scalar.xori v165 v167
  let c1_i32_132 : BitVec 32 := 1#32
  let v169 : BitVec 32 := Scalar.muli v168 c1_i32_132
  let v170 : BitVec 32 := Scalar.addi c0_i32_133 v169
  v170.toNat
def k0_off4 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v177 : Index := Scalar.indexCast v2
  let c0_138 : Index := 0#32
  let c0_139 : Index := 0#32
  ![v177.toNat, 0, 0]
def k0_off5 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32 : BitVec 32 := 256#32
  let v180 : BitVec 32 := Scalar.muli v2 c256_i32
  let v181 : Index := Scalar.indexCast v180
  let c0_140 : Index := 0#32
  ![v181.toNat, 0]
def k0_off6 (d0 : Dev nD) (c1_i32_143 : BitVec 32) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_141 : BitVec 32 := 1#32
  let v185 : BitVec 32 := Scalar.shrui v2 c1_i32_141
  let c1_i32_142 : BitVec 32 := 1#32
  let v186 : BitVec 32 := Scalar.andi v185 c1_i32_142
  let v187 : BitVec 32 := Scalar.xori v2 v186
  let v188 : BitVec 32 := Scalar.xori v187 c1_i32_143
  let c1_i32_144 : BitVec 32 := 1#32
  let v189 : BitVec 32 := Scalar.shrui v188 c1_i32_144
  let c1_i32_145 : BitVec 32 := 1#32
  let v190 : BitVec 32 := Scalar.andi v189 c1_i32_145
  let v191 : BitVec 32 := Scalar.xori v188 v190
  ![v191.toNat]
def k0_off7 (d0 : Dev nD) (c1_i32_143 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_141 : BitVec 32 := 1#32
  let v185 : BitVec 32 := Scalar.shrui v2 c1_i32_141
  let c1_i32_142 : BitVec 32 := 1#32
  let v186 : BitVec 32 := Scalar.andi v185 c1_i32_142
  let v187 : BitVec 32 := Scalar.xori v2 v186
  let v188 : BitVec 32 := Scalar.xori v187 c1_i32_143
  let c1_i32_144 : BitVec 32 := 1#32
  let v189 : BitVec 32 := Scalar.shrui v188 c1_i32_144
  let c1_i32_145 : BitVec 32 := 1#32
  let v190 : BitVec 32 := Scalar.andi v189 c1_i32_145
  let v191 : BitVec 32 := Scalar.xori v188 v190
  let v198 : Index := Scalar.indexCast v191
  let c0_154 : Index := 0#32
  let c0_155 : Index := 0#32
  ![v198.toNat, 0, 0]
def k0_off8 (d0 : Dev nD) (c1_i32_143 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_141 : BitVec 32 := 1#32
  let v185 : BitVec 32 := Scalar.shrui v2 c1_i32_141
  let c1_i32_142 : BitVec 32 := 1#32
  let v186 : BitVec 32 := Scalar.andi v185 c1_i32_142
  let v187 : BitVec 32 := Scalar.xori v2 v186
  let v188 : BitVec 32 := Scalar.xori v187 c1_i32_143
  let c1_i32_144 : BitVec 32 := 1#32
  let v189 : BitVec 32 := Scalar.shrui v188 c1_i32_144
  let c1_i32_145 : BitVec 32 := 1#32
  let v190 : BitVec 32 := Scalar.andi v189 c1_i32_145
  let v191 : BitVec 32 := Scalar.xori v188 v190
  let c256_i32_156 : BitVec 32 := 256#32
  let v201 : BitVec 32 := Scalar.muli v191 c256_i32_156
  let v202 : Index := Scalar.indexCast v201
  let c0_157 : Index := 0#32
  ![v202.toNat, 0]
abbrev stage0_0 : Fin 1 → Memref sig .tc .vmem S2048x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .bf16⟩
  | .hbm, ⟨4, _⟩ => ⟨S2048x2048, .f32⟩
  | .hbm, ⟨5, _⟩ => ⟨S_, .f32⟩
  | .hbm, ⟨6, _⟩ => ⟨S2048x2048, .f32⟩
  | .hbm, ⟨7, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Proof.KernelIdealProtocol.lean ====
/-
The exchange of the all-to-all kernel as a schedule of rounds: its cells, the contents each message carries, who pays
which cell, what a device owes at the launch and the levels its waits sit at.

Every device `c` of eight has seventeen cells: its barrier semaphore, eight send semaphores (one per pairing mask, mask
0 unused) and eight receive semaphores (one per sender, its own unused). All of them run one round:

* barrier cell of `c`: one unit from every other device `d`, handing `c` the slot of `d`'s landing buffer that `c`
  will write, and that `d`'s receive cell for `c` is at its round;
* receive cell of `c` for sender `e`: the bytes of one slot, paid by `e`'s transfer, handing `c` slot `e` of its
  landing buffer holding `e`'s rows for `c`;
* send cell of `c` for mask `r`: the bytes of one slot, paid by the same transfer at its source, handing back the slot
  of the staging buffer it read.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.Ring
public import Idealize.ShloMosaic.Lib.ValueIdxCore
public import Idealize.ShloMosaic.Lib.ValueLayout

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)

variable {F : FTy → Type} [FloatOps F]

/-! ## The resource algebra: the pipeline's rounds beside the exchange's, whose duties are named by devices -/

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The pairing -/

/-- A word's low two bits in Gray order: bit 1 folded into bit 0. -/
def fold (x : ℕ) : ℕ := x ^^^ ((x >>> 1) &&& 1)

set_option backward.proofsInPublic true in
/-- The device `c` is paired with under mask `r` (mask 0: itself). -/
def par (c : Dev nD) (r : Fin 8) : Dev nD := ⟨fold (fold c.val ^^^ r.val) % 8, Nat.mod_lt _ (by decide)⟩

/-- Mask 0 pairs a device with itself. -/
theorem par_zero (c : Dev nD) : par c 0 = c := by revert c; decide
/-- The pairing under a mask undoes itself. -/
theorem par_par (c : Dev nD) (r : Fin 8) : par (par c r) r = c := by revert c r; decide
/-- Different masks pair a device with different devices. -/
theorem par_injective (c : Dev nD) : Function.Injective (par c) := by revert c; decide
/-- A mask other than 0 pairs a device with another one. -/
theorem par_ne (c : Dev nD) (r : Fin 8) (h : r ≠ 0) : par c r ≠ c := by revert c r; decide

/-- The seven masks in use, and the seven other devices. -/
abbrev masks : Finset (Fin 8) := Finset.univ.erase 0
abbrev others (c : Dev nD) : Finset (Dev nD) := Finset.univ.erase c

/-- The seven masks reach exactly the seven other devices. -/
theorem masks_image (c : Dev nD) : masks.image (par c) = others c := by revert c; decide

/-- The masks in use are the nonzero ones. -/
theorem mem_masks {r : Fin 8} : r ∈ masks ↔ r ≠ 0 := by simp

/-- A sum over the masks, through the pairing, is the sum over the other devices. -/
theorem sum_par {A : Type} [AddCommMonoid A] (c : Dev nD) (f : Dev nD → A) : ∑ r ∈ masks, f (par c r) = ∑ p ∈ others c, f p := by
  rw [← masks_image c, Finset.sum_image fun _ _ _ _ h => par_injective c h]

omit [FloatOps F] in
/-- A conjunction over the other devices is one over the masks, through the pairing. -/
theorem bigSep_par (c : Dev nD) (Φ : Dev nD → sProp 𝕄) : bigSep (others c) Φ = bigSep masks fun r => Φ (par c r) := by
  rw [← masks_image c]
  exact bigSep_image_of_injOn (fun _ _ _ _ h => par_injective c h) Φ

/-! The kernel's device and offset chains are the pairing's. -/

/-- The target of each of the seven barrier signals: the device 1, …, 7 places on. -/
theorem sig1_eq (c : Dev nD) : (⟨k0_dev1 c, k0_dev1_lt c⟩ : Dev nD) = c + 1 := by revert c; decide +kernel
theorem sig2_eq (c : Dev nD) : (⟨k0_dev2 c, k0_dev2_lt c⟩ : Dev nD) = c + 2 := by revert c; decide +kernel
theorem sig3_eq (c : Dev nD) : (⟨k0_dev3 c, k0_dev3_lt c⟩ : Dev nD) = c + 3 := by revert c; decide +kernel
theorem sig4_eq (c : Dev nD) : (⟨k0_dev4 c, k0_dev4_lt c⟩ : Dev nD) = c + 4 := by revert c; decide +kernel
theorem sig5_eq (c : Dev nD) : (⟨k0_dev5 c, k0_dev5_lt c⟩ : Dev nD) = c + 5 := by revert c; decide +kernel
theorem sig6_eq (c : Dev nD) : (⟨k0_dev6 c, k0_dev6_lt c⟩ : Dev nD) = c + 6 := by revert c; decide +kernel
theorem sig7_eq (c : Dev nD) : (⟨k0_dev7 c, k0_dev7_lt c⟩ : Dev nD) = c + 7 := by revert c; decide +kernel

/-- The target of each of the seven copies: the device paired under its mask. -/
theorem snd1_eq (c : Dev nD) : (⟨k0_dev8 c, k0_dev8_lt c⟩ : Dev nD) = par c 1 := by revert c; decide +kernel
theorem snd2_eq (c : Dev nD) : (⟨k0_dev9 c, k0_dev9_lt c⟩ : Dev nD) = par c 2 := by revert c; decide +kernel
theorem snd4_eq (c : Dev nD) : (⟨k0_dev10 c, k0_dev10_lt c⟩ : Dev nD) = par c 4 := by revert c; decide +kernel
theorem snd3_eq (c : Dev nD) : (⟨k0_dev11 c, k0_dev11_lt c⟩ : Dev nD) = par c 3 := by revert c; decide +kernel
theorem snd5_eq (c : Dev nD) : (⟨k0_dev12 c, k0_dev12_lt c⟩ : Dev nD) = par c 5 := by revert c; decide +kernel
theorem snd6_eq (c : Dev nD) : (⟨k0_dev13 c, k0_dev13_lt c⟩ : Dev nD) = par c 6 := by revert c; decide +kernel
theorem snd7_eq (c : Dev nD) : (⟨k0_dev14 c, k0_dev14_lt c⟩ : Dev nD) = par c 7 := by revert c; decide +kernel

/-- The offsets of the slots, semaphores and rows that a mask picks, in closed form. -/
theorem off3_eq (c : Dev nD) (r : Fin 7) : k0_off3 c (BitVec.ofNat 32 (1 + r.val)) = ![(par c r.succ).val, 0, 0] := by revert c r; decide +kernel
theorem off6_eq (c : Dev nD) (r : Fin 7) : k0_off6 c (BitVec.ofNat 32 (1 + r.val)) = ![(par c r.succ).val] := by revert c r; decide +kernel
theorem off7_eq (c : Dev nD) (r : Fin 7) : k0_off7 c (BitVec.ofNat 32 (1 + r.val)) = ![(par c r.succ).val, 0, 0] := by revert c r; decide +kernel
theorem off8_eq (c : Dev nD) (r : Fin 7) : k0_off8 c (BitVec.ofNat 32 (1 + r.val)) = ![256 * (par c r.succ).val, 0] := by revert c r; decide +kernel

/-! ## The memrefs and cells -/

abbrev xM : Memref sig .tc .vmem S2048x256 .bf16 := Memref.whole cc0_stg0_0
abbrev wM : Memref sig .tc .vmem S2048x2048 .bf16 := Memref.whole cc0_stg1_0
abbrev oM : Memref sig .tc .vmem S256x2048 .f32 := Memref.whole cc0_stg2_0
abbrev stM : Memref sig .tc .vmem S8x256x256 .bf16 := Memref.whole cc0_scratch0
abbrev xaM : Memref sig .tc .vmem S8x256x256 .bf16 := Memref.whole cc0_scratch1

abbrev barS : Sem sig := (SemArray.scalar (sig.barrier 5 rfl) : Sems sig S_).sem
set_option backward.proofsInPublic true in
/-- The send semaphore of mask `j`, the receive semaphore of sender `j`. -/
abbrev sS (j : Fin 8) : DmaSem sig := (⟨3 + j.val, by have := j.isLt; show 3 + j.val < 19; omega⟩ : Fin 19)
set_option backward.proofsInPublic true in
abbrev rS (j : Fin 8) : DmaSem sig := (⟨11 + j.val, by have := j.isLt; show 11 + j.val < 19; omega⟩ : Fin 19)

set_option backward.proofsInPublic true in
theorem sem_inb (j : Fin 8) : ∀ a, (![j.val] : Fin 1 → ℕ) a + S1.size a ≤ S8.size a := by revert j; decide
/-- Slicing the send semaphores at a literal place gives that one. -/
theorem sem_send' : ∀ j : Fin 8,
    (((cc0_scratch2 : DmaSems sig S8).slice (Rect.unit (s := S8) ![j.val] S1.size (sem_inb j))).squeeze S_ squeezes_S1_S_).sem = sS j := by
  decide +kernel
/-- The same at an offset known by an equation. -/
theorem sem_send (j : Fin 8) (off : Fin 1 → ℕ) (h : off = ![j.val]) (inb : ∀ a, off a + S1.size a ≤ S8.size a) (hs : S1.Squeezes S_) :
    (((cc0_scratch2 : DmaSems sig S8).slice (Rect.unit (s := S8) off S1.size inb)).squeeze S_ hs).sem = sS j := by
  subst h; exact sem_send' j
/-- Slicing the receive semaphores at a literal place gives that one. -/
theorem sem_recv' : ∀ j : Fin 8,
    (((cc0_scratch3 : DmaSems sig S8).slice (Rect.unit (s := S8) ![j.val] S1.size (sem_inb j))).squeeze S_ squeezes_S1_S_).sem = rS j := by
  decide +kernel
/-- The same at an offset known by an equation. -/
theorem sem_recv (j : Fin 8) (off : Fin 1 → ℕ) (h : off = ![j.val]) (inb : ∀ a, off a + S1.size a ≤ S8.size a) (hs : S1.Squeezes S_) :
    (((cc0_scratch3 : DmaSems sig S8).slice (Rect.unit (s := S8) off S1.size inb)).squeeze S_ hs).sem = rS j := by
  subst h; exact sem_recv' j

/-- The kinds of cell a device has: its barrier, `some (false, j)` its send cell `j`, `some (true, j)` its receive cell `j`. -/
abbrev CK : Type := Option (Bool × Fin 8)
/-- The kernel's own (scoped) semaphores; -/
abbrev osem : Bool × Fin 8 → SemLoc sig := fun bj => if bj.1 then .dma (rS bj.2) else .dma (sS bj.2)
/-- all seventeen. -/
abbrev csem : CK → SemLoc sig := fun | none => .reg barS | some bj => osem bj
abbrev kcell (ck : Dev nD × CK) : GSem nD τ sig := ((ck.1 : Thread nD τ), csem ck.2)

abbrev barCell (c : Dev nD) : GSem nD τ sig := ((c : Thread nD τ), .reg barS)
abbrev sendCell (c : Dev nD) (j : Fin 8) : GSem nD τ sig := ((c : Thread nD τ), .dma (sS j))
abbrev recvCell (c : Dev nD) (j : Fin 8) : GSem nD τ sig := ((c : Thread nD τ), .dma (rS j))

/-- Which kind of cell a semaphore is. -/
def kindOf : SemLoc sig → Option CK
  | .reg s => if s = barS then some none else none
  | .dma q => if h : 11 ≤ q.val then some (some (true, ⟨q.val - 11, by have : q.val < 19 := q.isLt; omega⟩))
      else if h' : 3 ≤ q.val then some (some (false, ⟨q.val - 3, by omega⟩)) else none

/-- The kind read off a cell's semaphore is the kind it was made from. -/
theorem kindOf_csem (k : CK) : kindOf (csem k) = some k := by revert k; decide
theorem kindOf_bar : kindOf (.reg barS) = some none := kindOf_csem none
theorem kindOf_send (j : Fin 8) : kindOf (.dma (sS j)) = some (some (false, j)) := kindOf_csem (some (false, j))
theorem kindOf_recv (j : Fin 8) : kindOf (.dma (rS j)) = some (some (true, j)) := kindOf_csem (some (true, j))

/-- Different kinds of cell have different semaphores. -/
theorem csem_injective : Function.Injective csem := fun k k' h => by
  have := congrArg kindOf h; rw [kindOf_csem, kindOf_csem] at this; exact Option.some.inj this

/-- Different pairs of device and kind are different cells. -/
theorem kcell_injective : Function.Injective (kcell : Dev nD × CK → GSem nD τ sig) := fun ⟨c, k⟩ ⟨c', k'⟩ h => by
  have h1 : c = c' := congrArg (fun g : GSem nD τ sig => g.1.1) h
  have h2 : k = k' := csem_injective (congrArg Prod.snd h)
  rw [h1, h2]

/-! ## Slots of the staging and landing buffers -/

set_option backward.proofsInPublic true in
theorem slot_inb (e : Fin 8) : ∀ a, (![e.val, 0, 0] : Fin 3 → ℕ) a + S1x256x256.size a ≤ S8x256x256.size a := by revert e; decide

/-- Slot `e` of a staging or landing buffer. -/
abbrev slotR (e : Fin 8) : Rect S8x256x256 := Rect.unit (s := S8x256x256) ![e.val, 0, 0] S1x256x256.size (slot_inb e)

/-- An index lies in slot `e` when its first coordinate is `e`. -/
theorem mem_slotR {e : Fin 8} {i : S8x256x256.Idx} : i ∈ (slotR e).set ↔ (i 0).val = e.val := by
  rw [Rect.mem_set_unit]
  constructor
  · intro h
    have h0 := h 0
    have h1 : e.val ≤ (i 0).val ∧ (i 0).val < e.val + 1 := h0
    omega
  · intro h a
    match a with
    | ⟨0, _⟩ => exact (show e.val ≤ (i 0).val ∧ (i 0).val < e.val + 1 from by omega)
    | ⟨1, _⟩ => exact ⟨Nat.zero_le _, (show (i 1).val < 0 + 256 from (i 1).isLt)⟩
    | ⟨2, _⟩ => exact ⟨Nat.zero_le _, (show (i 2).val < 0 + 256 from (i 2).isLt)⟩

/-- Different slots share no index. -/
theorem slotR_disjoint (e e' : Fin 8) (h : e ≠ e') : Disjoint (slotR e).set (slotR e').set :=
  Finset.disjoint_left.mpr fun i hi hi' => h (Fin.ext ((mem_slotR.mp hi).symm.trans (mem_slotR.mp hi')))

/-- The eight slots are the whole buffer. -/
theorem slotR_cover : (Finset.univ : Finset (Fin 8)).biUnion (fun e => (slotR e).set) = Finset.univ := by
  ext i
  simp only [Finset.mem_biUnion, Finset.mem_univ, true_and, iff_true]
  exact ⟨⟨(i 0).val, (i 0).isLt⟩, mem_slotR.mpr rfl⟩

/-- Where an index inside slot `e` lies in the buffer. -/
theorem slotR_emb (e : Fin 8) (x : S1x256x256.Idx) : (slotR e).emb x = ix3 e (x 1) (x 2) := by
  funext a
  match a with
  | ⟨0, _⟩ => exact Fin.ext (show e.val + 1 * (x 0).val = e.val by have : (x 0).val < 1 := (x 0).isLt; omega)
  | ⟨1, _⟩ => exact Fin.ext (show 0 + 1 * (x 1).val = (x 1).val by omega)
  | ⟨2, _⟩ => exact Fin.ext (show 0 + 1 * (x 2).val = (x 2).val by omega)

/-- Slot `e` of device `c`'s staging buffer at contents `f` (a function of the whole buffer, read there only). -/
def stPts (c : Dev nD) (e : Fin 8) (f : (cc0_scratch0 : Ref sig .tc).ty.Contents (Elt F)) : sProp 𝕄 :=
  ((c : Thread nD τ).loc cc0_scratch0) ↦[(slotR e).set]{fullShare} f
/-- Slot `e` of device `c`'s landing buffer. -/
def xaPts (c : Dev nD) (e : Fin 8) (f : (cc0_scratch1 : Ref sig .tc).ty.Contents (Elt F)) : sProp 𝕄 :=
  ((c : Thread nD τ).loc cc0_scratch1) ↦[(slotR e).set]{fullShare} f

omit [FloatOps F] in
instance stPts_storable (c : Dev nD) (e) (f) : BI.Storable (upEmb : UEmb _ 𝕄) (stPts (F := F) c e f) := by unfold stPts; infer_instance
omit [FloatOps F] in
instance xaPts_storable (c : Dev nD) (e) (f) : BI.Storable (upEmb : UEmb _ 𝕄) (xaPts (F := F) c e f) := by unfold xaPts; infer_instance

omit [FloatOps F] in
theorem st_slots (c : Dev nD) (f : (cc0_scratch0 : Ref sig .tc).ty.Contents (Elt F)) :
    (((c : Thread nD τ).loc cc0_scratch0) ↦{fullShare} f : sProp 𝕄) = bigSep Finset.univ fun e => stPts c e f :=
  Ring.pointsTo_blocks (ℓ := (c : Thread nD τ).loc cc0_scratch0) (fun e : Fin 8 => (slotR e).set) slotR_disjoint slotR_cover f
omit [FloatOps F] in
theorem xa_slots (c : Dev nD) (f : (cc0_scratch1 : Ref sig .tc).ty.Contents (Elt F)) :
    (((c : Thread nD τ).loc cc0_scratch1) ↦{fullShare} f : sProp 𝕄) = bigSep Finset.univ fun e => xaPts c e f :=
  Ring.pointsTo_blocks (ℓ := (c : Thread nD τ).loc cc0_scratch1) (fun e : Fin 8 => (slotR e).set) slotR_disjoint slotR_cover f
omit [FloatOps F] in
/-- Slots at contents of their own make the landing buffer whole at some contents. -/
theorem xa_join (c : Dev nD) (f : (cc0_scratch1 : Ref sig .tc).ty.Contents (Elt F)) :
    bigSep Finset.univ (fun e => iprop(∃ g, xaPts c e g)) ⊢ (iprop(∃ g : (cc0_scratch1 : Ref sig .tc).ty.Contents (Elt F), ((c : Thread nD τ).loc cc0_scratch1) ↦{fullShare} g) : sProp 𝕄) :=
  Ring.pointsTo_blocks_join_exists (ℓ := (c : Thread nD τ).loc cc0_scratch1) (fun e : Fin 8 => (slotR e).set) slotR_disjoint slotR_cover f

/-! ## Contents -/

set_option backward.proofsInPublic true in
/-- Row `i` of block `t` in an array of eight blocks of 256 rows. -/
def rowOf (t : Fin 8) (i : Fin 256) : Fin 2048 := ⟨256 * t.val + i.val, by have := t.isLt; have := i.isLt; omega⟩

/-- Device `c`'s column block of `x` as staged (fetched whole). -/
def xstg (c : Dev nD) : (cc0_stg0_0 : Ref sig .tc).ty.Contents (Elt F) :=
  (win0_0.blk (0 : Fin 1)).view.read (Elt F) ((s₀ m ρ).mem ((c : Thread nD τ).loc main_arg0))
/-- `w` as staged on device `c`. -/
def wstg (c : Dev nD) : (cc0_stg1_0 : Ref sig .tc).ty.Contents (Elt F) :=
  (win0_1.blk (0 : Fin 1)).view.read (Elt F) ((s₀ m ρ).mem ((c : Thread nD τ).loc main_arg1))

/-- The staging buffer of device `c` once filled: slot `t` holds the block's rows `256 t …`. -/
def stageV (c : Dev nD) : (cc0_scratch0 : Ref sig .tc).ty.Contents (Elt F) :=
  fun i => xstg m ρ c (ix2 (rowOf (i (0 : Fin 3)) (i (1 : Fin 3))) (i (2 : Fin 3)))
/-- The landing buffer of device `c`: slot `e` holds the rows `256 c …` of device `e`'s block. -/
def xaV (c : Dev nD) : (cc0_scratch1 : Ref sig .tc).ty.Contents (Elt F) :=
  fun i => stageV m ρ (i (0 : Fin 3)) (ix3 c (i (1 : Fin 3)) (i (2 : Fin 3)))

/-- The bytes of one slot. -/
abbrev N : ℕ := ((xaM : Memref sig .tc .vmem S8x256x256 .bf16).slice (slotR 0) (fun _ => rfl)).view.dmaCredit
/-- A slot is not empty. -/
theorem N_pos : 0 < N := View.dmaCredit_pos _ (by decide)

/-! ## The schedule -/

/-- The duties of a cell's one round, by kind. -/
def dutiesK (c : Dev nD) : CK → Finset (Dev nD)
  | none => others c
  | some (false, j) => if j = 0 then ∅ else {0}
  | some (true, e) => if e = c then ∅ else {0}

/-- What paying a duty hands the cell's owner, by kind. -/
def payK (c : Dev nD) : CK → Dev nD → sProp 𝕄
  | none, d => iprop((∃ f, xaPts d c f) ∗ reached ER (recvCell d c) 0)
  | some (false, j), _ => stPts c (par c j) (stageV m ρ c)
  | some (true, e), _ => xaPts c e (xaV m ρ c)

omit [FloatOps F] in
instance payK_storable (c : Dev nD) (k : CK) (d : Dev nD) : BI.Storable (upEmb : UEmb _ 𝕄) (payK (F := F) m ρ c k d) := by
  rcases k with _ | ⟨_ | _, j⟩ <;> unfold payK <;> infer_instance

/-- The units one duty pays into a cell of each kind. -/
def amountK : CK → ℕ
  | none => 1
  | some _ => N

/-- Every duty pays something. -/
theorem amountK_pos (k : CK) : 0 < amountK k := by cases k with
  | none => exact Nat.one_pos
  | some _ => exact N_pos

/-- The exchange's schedule: one round, round 0, at every cell of a device's core. -/
def xRd : Rounds.Schedule (GSem nD τ sig) (Dev nD) 𝕄 where
  duties g r := if r = 0 ∧ g.1.2 = .tc then ((kindOf g.2).elim ∅ (dutiesK g.1.1)) else ∅
  unitless _ := False
  amount g _ _ := (kindOf g.2).elim 1 amountK
  payload g _ d := (kindOf g.2).elim iprop(emp) (fun k => payK m ρ g.1.1 k d)
  amount_pos g _ _ _ := by
    cases h : kindOf g.2 with
    | none => exact Nat.one_pos
    | some k => exact amountK_pos k

omit [FloatOps F] in
instance xRd_payload_storable (g : GSem nD τ sig) (r : ℕ) (d : Dev nD) :
    BI.Storable (upEmb : UEmb _ 𝕄) ((xRd (F := F) m ρ).payload g r d) := by
  show BI.Storable upEmb ((kindOf g.2).elim iprop(emp) (fun k => payK m ρ g.1.1 k d))
  cases kindOf g.2 with
  | none => show BI.Storable upEmb iprop(emp); infer_instance
  | some k => exact payK_storable m ρ g.1.1 k d

omit [FloatOps F] in
theorem duties_cell (c : Dev nD) (k : CK) : (xRd (F := F) m ρ).duties (kcell (c, k)) 0 = dutiesK c k := by
  have h : (0 : ℕ) = 0 ∧ (kcell (c, k)).1.2 = .tc := ⟨rfl, rfl⟩
  refine (if_pos (e := (∅ : Finset (Dev nD))) h).trans ?_
  show (kindOf (csem k)).elim ∅ (dutiesK c) = _
  rw [kindOf_csem]; rfl
omit [FloatOps F] in
theorem duties_later (g : GSem nD τ sig) : ∀ r, 1 ≤ r → (xRd (F := F) m ρ).duties g r = ∅ :=
  fun r hr => if_neg fun h => by omega
omit [FloatOps F] in
theorem amount_cell (c : Dev nD) (k : CK) (r : ℕ) (d : Dev nD) : (xRd (F := F) m ρ).amount (kcell (c, k)) r d = amountK k := by
  show (kindOf (csem k)).elim 1 amountK = _; rw [kindOf_csem]; rfl
omit [FloatOps F] in
theorem payload_cell (c : Dev nD) (k : CK) (r : ℕ) (d : Dev nD) : (xRd (F := F) m ρ).payload (kcell (c, k)) r d = payK m ρ c k d := by
  show (kindOf (csem k)).elim iprop(emp) (fun k => payK m ρ c k d) = _; rw [kindOf_csem]; rfl

omit [FloatOps F] in
theorem mem_bar (c d : Dev nD) (h : c ≠ d) : c ∈ (xRd (F := F) m ρ).duties (barCell d) 0 :=
  (duties_cell m ρ d none).symm ▸ Finset.mem_erase.mpr ⟨h, Finset.mem_univ _⟩
omit [FloatOps F] in
theorem mem_send (c : Dev nD) (j : Fin 8) (h : j ≠ 0) : (0 : Dev nD) ∈ (xRd (F := F) m ρ).duties (sendCell c j) 0 := by
  refine (duties_cell m ρ c (some (false, j))).symm ▸ ?_
  show (0 : Dev nD) ∈ (if j = 0 then ∅ else {0} : Finset (Dev nD))
  rw [if_neg h]; exact Finset.mem_singleton_self _
omit [FloatOps F] in
theorem mem_recv (c e : Dev nD) (h : e ≠ c) : (0 : Dev nD) ∈ (xRd (F := F) m ρ).duties (recvCell c e) 0 := by
  refine (duties_cell m ρ c (some (true, e))).symm ▸ ?_
  show (0 : Dev nD) ∈ (if e = c then ∅ else {0} : Finset (Dev nD))
  rw [if_neg h]; exact Finset.mem_singleton_self _
omit [FloatOps F] in
theorem payload_bar (c d : Dev nD) : (xRd (F := F) m ρ).payload (barCell c) 0 d = iprop((∃ f, xaPts d c f) ∗ reached ER (recvCell d c) 0) :=
  payload_cell m ρ c none 0 d
omit [FloatOps F] in
theorem payload_send (c : Dev nD) (j : Fin 8) : (xRd (F := F) m ρ).payload (sendCell c j) 0 0 = stPts c (par c j) (stageV m ρ c) :=
  payload_cell m ρ c (some (false, j)) 0 0
omit [FloatOps F] in
theorem payload_recv (c e : Dev nD) : (xRd (F := F) m ρ).payload (recvCell c e) 0 0 = xaPts c e (xaV m ρ c) :=
  payload_cell m ρ c (some (true, e)) 0 0

omit [FloatOps F] in
theorem expect_cell (c : Dev nD) (k : CK) : (xRd (F := F) m ρ).expect (kcell (c, k)) 0 = (dutiesK c k).card * amountK k := by
  unfold Schedule.expect Schedule.amountOf
  rw [duties_cell, Finset.sum_congr rfl fun d _ => amount_cell m ρ c k 0 d, Finset.sum_const, smul_eq_mul]
omit [FloatOps F] in
theorem expect_bar (c : Dev nD) : (xRd (F := F) m ρ).expect (barCell c) 0 = 7 := by
  refine (expect_cell m ρ c none).trans ?_
  show (others c).card * 1 = 7
  rw [Finset.card_erase_of_mem (Finset.mem_univ _), Finset.card_univ, Fintype.card_fin]; rfl
omit [FloatOps F] in
theorem expect_send (c : Dev nD) (j : Fin 8) (h : j ≠ 0) : (xRd (F := F) m ρ).expect (sendCell c j) 0 = N := by
  refine (expect_cell m ρ c (some (false, j))).trans ?_
  show (if j = 0 then ∅ else {0} : Finset (Dev nD)).card * N = N
  rw [if_neg h, Finset.card_singleton, Nat.one_mul]
omit [FloatOps F] in
theorem expect_recv (c : Dev nD) (e : Fin 8) (h : e ≠ c) : (xRd (F := F) m ρ).expect (recvCell c e) 0 = N := by
  refine (expect_cell m ρ c (some (true, e))).trans ?_
  show (if e = c then ∅ else {0} : Finset (Dev nD)).card * N = N
  rw [if_neg h, Finset.card_singleton, Nat.one_mul]

omit [FloatOps F] in
/-- The payloads of a cell's round. -/
theorem rest_cell (c : Dev nD) (k : CK) :
    bigSep ((xRd (F := F) m ρ).duties (kcell (c, k)) 0 \ ∅) (fun d => (xRd (F := F) m ρ).payload (kcell (c, k)) 0 d) = bigSep (dutiesK c k) (payK m ρ c k) := by
  rw [Finset.sdiff_empty, duties_cell]
  exact bigSep_congr fun d _ => payload_cell m ρ c k 0 d
omit [FloatOps F] in
theorem rest_bar (c : Dev nD) :
    bigSep ((xRd (F := F) m ρ).duties (barCell c) 0 \ ∅) (fun d => (xRd (F := F) m ρ).payload (barCell c) 0 d)
      = bigSep masks fun r => iprop((∃ f, xaPts (F := F) (par c r) c f) ∗ reached ER (recvCell (par c r) c) 0) :=
  (rest_cell m ρ c none).trans (bigSep_par c _)
omit [FloatOps F] in
theorem rest_send (c : Dev nD) (j : Fin 8) (h : j ≠ 0) :
    bigSep ((xRd (F := F) m ρ).duties (sendCell c j) 0 \ ∅) (fun d => (xRd (F := F) m ρ).payload (sendCell c j) 0 d) = stPts c (par c j) (stageV m ρ c) := by
  refine (rest_cell m ρ c (some (false, j))).trans ?_
  show bigSep (if j = 0 then ∅ else {0}) _ = _
  rw [if_neg h, bigSep_singleton]; rfl
omit [FloatOps F] in
theorem rest_recv (c : Dev nD) (e : Fin 8) (h : e ≠ c) :
    bigSep ((xRd (F := F) m ρ).duties (recvCell c e) 0 \ ∅) (fun d => (xRd (F := F) m ρ).payload (recvCell c e) 0 d) = xaPts c e (xaV m ρ c) := by
  refine (rest_cell m ρ c (some (true, e))).trans ?_
  show bigSep (if e = c then ∅ else {0}) _ = _
  rw [if_neg h, bigSep_singleton]; rfl

/-! ## What a device owes; the levels -/

/-- The transfers of the masks `S` still to be made by device `c`. -/
def sendO (c : Dev nD) (S : Finset (Fin 8)) : CellTallies nD τ sig Unit := ∑ r ∈ S, tallyAt (recvCell (par c r) c) () N
/-- The barrier signals still to be made, to the devices `T`. -/
def sigO (T : Finset (Dev nD)) : CellTallies nD τ sig Unit := ∑ d ∈ T, tallyAt (barCell d) () 1
/-- What a device owes at the launch: its seven copies and its seven signals. -/
def O₀ (c : Dev nD) : CellTallies nD τ sig Unit := sendO c masks + sigO (others c)

/-- Paying one copy's duty takes it out of what is owed. -/
theorem sendO_erase (c : Dev nD) {S : Finset (Fin 8)} {r : Fin 8} (h : r ∈ S) :
    sendO c S = sendO c (S.erase r) + tallyAt (recvCell (par c r) c) () N := (Finset.sum_erase_add S _ h).symm
/-- Paying one signal's duty takes it out of what is owed. -/
theorem sigO_erase {T : Finset (Dev nD)} {d : Dev nD} (h : d ∈ T) : sigO T = sigO (T.erase d) + tallyAt (barCell d) () 1 :=
  (Finset.sum_erase_add T _ h).symm
theorem sendO_empty (c : Dev nD) : sendO c ∅ = 0 := Finset.sum_empty
theorem sigO_empty : sigO ∅ = 0 := Finset.sum_empty

/-- A sum of tallies read at a cell is the sum of the readings. -/
theorem tallies_sum_apply {I : Type} (S : Finset I) (t : I → CellTallies nD τ sig Unit) (g : GSem nD τ sig) (u : Unit) :
    (∑ i ∈ S, t i) g u = ∑ i ∈ S, t i g u := by
  rw [Finset.sum_apply, Finsupp.finset_sum_apply]

/-- The label sets: one label on every cell of a device's main thread. -/
def L (g : GSem nD τ sig) : Finset Unit := if g.1.2 = .tc then {()} else ∅
/-- barrier cells at 1, receive cells at 2, everything else (staging, send) at 0. -/
def lvK : CK → ℕ
  | none => 1
  | some (b, _) => if b then 2 else 0
/-- The level of a cell, by its kind. -/
def lv (g : GSem nD τ sig) (_ : Unit) : ℕ := (kindOf g.2).elim 0 lvK

theorem L_of_ne (g : GSem nD τ sig) (h : g.1.2 ≠ .tc) : L g = ∅ := if_neg h
theorem L_tc (c : Dev nD) (sm : SemLoc sig) : L ((c : Thread nD τ), sm) = {()} := if_pos rfl
/-- A cell's level is its kind's. -/
theorem lv_cell (c : Dev nD) (k : CK) (u : Unit) : lv (kcell (c, k)) u = lvK k := by show (kindOf (csem k)).elim 0 lvK = _; rw [kindOf_csem]; rfl

/-- What is owed by copies is owed on receive cells. -/
theorem sendO_pos {c : Dev nD} {S : Finset (Fin 8)} {g : GSem nD τ sig} {u : Unit} (h : 0 < sendO c S g u) : ∃ p e, g = kcell (p, some (true, e)) := by
  unfold sendO at h
  rw [tallies_sum_apply] at h
  obtain ⟨r, -, hr⟩ := Finset.exists_ne_zero_of_sum_ne_zero h.ne'
  rw [tallyAt_apply] at hr
  by_cases hg : g = recvCell (par c r) c ∧ u = ()
  · exact ⟨par c r, c, hg.1⟩
  · rw [if_neg hg] at hr; exact absurd rfl hr
/-- What is owed by signals is owed on barrier cells. -/
theorem sigO_pos {T : Finset (Dev nD)} {g : GSem nD τ sig} {u : Unit} (h : 0 < sigO T g u) : ∃ p, g = kcell (p, none) := by
  unfold sigO at h
  rw [tallies_sum_apply] at h
  obtain ⟨r, -, hr⟩ := Finset.exists_ne_zero_of_sum_ne_zero h.ne'
  rw [tallyAt_apply] at hr
  by_cases hg : g = barCell r ∧ u = ()
  · exact ⟨r, hg.1⟩
  · rw [if_neg hg] at hr; exact absurd rfl hr

/-- A device's debt at launch sits on the cores' barrier and receive cells. -/
theorem O₀_pos {c : Dev nD} {g : GSem nD τ sig} {u : Unit} (h : 0 < O₀ c g u) : ∃ p k, g = kcell (p, k) ∧ 1 ≤ lvK k := by
  unfold O₀ at h
  rw [Pi.add_apply, Finsupp.add_apply] at h
  rcases Nat.eq_zero_or_pos (sendO c masks g u) with h0 | h0
  · rw [h0, Nat.zero_add] at h
    obtain ⟨p, rfl⟩ := sigO_pos h
    exact ⟨p, none, rfl, le_refl 1⟩
  · obtain ⟨p, e, rfl⟩ := sendO_pos h0
    exact ⟨p, some (true, e), rfl, le_of_lt Nat.one_lt_two⟩

omit [FloatOps F] in
/-- A staging wait may be made under everything a device owes at launch, or nothing. -/
theorem mayWait_stage (c : Dev nD) (q : DmaSem sig) (hq : kindOf (.dma q) = none) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by obtain ⟨p, k, rfl, -⟩ := O₀_pos hg; rw [L_tc]; exact Finset.mem_singleton_self _)
      (fun p hp => by rw [Finset.mem_singleton.mp hp]; show (kindOf (.dma q)).elim 0 lvK ≤ 0; rw [hq]; exact le_refl 0)
      (fun g u hg => by obtain ⟨p, k, rfl, hk⟩ := O₀_pos hg; rw [lv_cell]; exact hk)
  · rw [MayWait_zero]; iintro -; iempintro

omit [FloatOps F] in
/-- At its barrier wait a device owes transfers only: receive cells, above its barrier cell. -/
theorem mayWait_bar (c : Dev nD) :
    (levAts L lv : sProp 𝕄) ⊢ MayWait (c : Thread nD τ) (.reg barS) () (sendO c masks) :=
  MayOwe.of_cut (L := L) (lev := lv) 1 (fun p hp => by rw [Finset.mem_singleton.mp hp, L_tc]; exact Finset.mem_singleton_self _)
    (fun g u hg => by obtain ⟨p, e, rfl⟩ := sendO_pos hg; rw [L_tc]; exact Finset.mem_singleton_self _)
    (fun p hp => by rw [Finset.mem_singleton.mp hp]; exact (lv_cell c none ()).le)
    (fun g u hg => by obtain ⟨p, e, rfl⟩ := sendO_pos hg; rw [lv_cell]; show 1 < 2; decide)

end Cert.KernelIdealProof

end
-- ==== Proof.KernelIdealSteps.lean ====
/-
The steps of the all-to-all kernel's body, one theorem per kind of operation, each stated once for a symbolic device and
a symbolic mask: a barrier signal, the barrier wait, the staging of one block, one transfer, the loads of one landed
block, one send wait.
-/
module

public import proofs.«01_k».proof.Proof.KernelIdealProtocol

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- The program `p` run on device `c`'s core. -/
abbrev run (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## Views -/

/-- What lies at index `x` of a slot's view. -/
theorem slot_unit_emb (e : Fin 8) (off : Fin 3 → ℕ) (h : off = ![e.val, 0, 0]) (inb) (x : S1x256x256.Idx) :
    (Rect.unit (s := S8x256x256) off S1x256x256.size inb).emb x = ix3 e (x 1) (x 2) := by
  subst h; exact slotR_emb e x

/-- Slot `e` of the staging buffer as the kernel slices it is the slot of the schedule. -/
theorem st_set (e : Fin 8) (off : Fin 3 → ℕ) (h : off = ![e.val, 0, 0]) (inb) (hu) :
    (stM.slice (Rect.unit (s := S8x256x256) off S1x256x256.size inb) hu).view.set = (slotR e).set := by
  subst h; exact (View.set_slice _ _).trans Finset.map_refl
/-- The same of the landing buffer. -/
theorem xa_set (e : Fin 8) (off : Fin 3 → ℕ) (h : off = ![e.val, 0, 0]) (inb) (hu) :
    (xaM.slice (Rect.unit (s := S8x256x256) off S1x256x256.size inb) hu).view.set = (slotR e).set := by
  subst h; exact (View.set_slice _ _).trans Finset.map_refl

omit [FloatOps F] in
theorem st_load (e : Fin 8) (off : Fin 3 → ℕ) (h : off = ![e.val, 0, 0]) (inb) (f : (cc0_scratch0 : Ref sig .tc).ty.Contents (Elt F)) :
    stM.view.readAt (Elt F) (Rect.unit (s := S8x256x256) off S1x256x256.size inb).toLoadRect f = fun x => f (ix3 e (x 1) (x 2)) := by
  funext x; exact congrArg f (slot_unit_emb e off h inb x)
omit [FloatOps F] in
theorem xa_load (e : Fin 8) (off : Fin 3 → ℕ) (h : off = ![e.val, 0, 0]) (inb) (f : (cc0_scratch1 : Ref sig .tc).ty.Contents (Elt F)) :
    xaM.view.readAt (Elt F) (Rect.unit (s := S8x256x256) off S1x256x256.size inb).toLoadRect f = fun x => f (ix3 e (x 1) (x 2)) := by
  funext x; exact congrArg f (slot_unit_emb e off h inb x)

/-- What a load of slot `e` of the landing buffer reads is that slot. -/
theorem xa_load_set (e : Fin 8) (off : Fin 3 → ℕ) (h : off = ![e.val, 0, 0]) (inb) :
    xaM.view.setOn (Rect.unit (s := S8x256x256) off S1x256x256.size inb).toLoadRect.set ⊆ (slotR e).set := by
  subst h; exact (Finset.map_refl).subset
/-- The same of the staging buffer. -/
theorem st_load_set (e : Fin 8) (off : Fin 3 → ℕ) (h : off = ![e.val, 0, 0]) (inb) :
    stM.view.setOn (Rect.unit (s := S8x256x256) off S1x256x256.size inb).toLoadRect.set ⊆ (slotR e).set := by
  subst h; exact (Finset.map_refl).subset

/-- Where an index inside block `t` of 256 rows lies in the whole. -/
theorem row_emb (n : ℕ) (t : Fin 8) (off : Fin 2 → ℕ) (h : off = ![256 * t.val, 0]) (inb) (x : (⟨2, ![256, n]⟩ : Shape).Idx) :
    (Rect.unit (s := ⟨2, ![2048, n]⟩) off (⟨2, ![256, n]⟩ : Shape).size inb).emb x = ix2 (rowOf t (x 0)) (x 1) := by
  subst h; funext a
  match a with
  | ⟨0, _⟩ => exact Fin.ext (show 256 * t.val + 1 * (x 0).val = 256 * t.val + (x 0).val by omega)
  | ⟨1, _⟩ => exact Fin.ext (show 0 + 1 * (x 1).val = (x 1).val by omega)

omit [FloatOps F] in
theorem x_load (t : Fin 8) (off : Fin 2 → ℕ) (h : off = ![256 * t.val, 0]) (inb) (f : (cc0_stg0_0 : Ref sig .tc).ty.Contents (Elt F)) :
    xM.view.readAt (Elt F) (Rect.unit (s := S2048x256) off S256x256.size inb).toLoadRect f = fun x => f (ix2 (rowOf t (x 0)) (x 1)) := by
  funext x; exact congrArg f (row_emb 256 t off h inb x)
omit [FloatOps F] in
theorem w_load (t : Fin 8) (off : Fin 2 → ℕ) (h : off = ![256 * t.val, 0]) (inb) (f : (cc0_stg1_0 : Ref sig .tc).ty.Contents (Elt F)) :
    wM.view.readAt (Elt F) (Rect.unit (s := S2048x2048) off S256x2048.size inb).toLoadRect f = fun x => f (ix2 (rowOf t (x 0)) (x 1)) := by
  funext x; exact congrArg f (row_emb 2048 t off h inb x)

/-- What a write through a view leaves at the element under `x`. -/
theorem write_at {κ : Kind} {sp : Space} {s : Shape} {e : EltTy} {Val : EltTy → Type} (V : View sig κ sp s e) (f : V.ty.Contents Val) (w : s.Idx → Val e)
    (x : s.Idx) (i : V.ty.Idx) (h : i = V.emb x) : V.write Val f w Finset.univ i = cast (congrArg Val V.elt_eq.symm) (w x) := by
  subst h; exact View.write_emb_of_mem f w (Finset.mem_univ x)

/-- A write leaves the elements off its view. -/
theorem write_off {κ : Kind} {sp : Space} {s : Shape} {e : EltTy} {Val : EltTy → Type} (V : View sig κ sp s e) (f : V.ty.Contents Val) (w : s.Idx → Val e)
    (i : V.ty.Idx) (h : i ∉ V.setOn Finset.univ) : V.write Val f w Finset.univ i = f i := View.write_of_not_mem f w _ h

omit [FloatOps F] in
/-- A store of slot `e` puts the vector there and leaves the other slots. -/
theorem st_store (e : Fin 8) (off : Fin 3 → ℕ) (h : off = ![e.val, 0, 0]) (inb) (f : (cc0_scratch0 : Ref sig .tc).ty.Contents (Elt F))
    (v : S1x256x256.Idx → Elt F .bf16) (i : S8x256x256.Idx) :
    (stM.access (Rect.unit (s := S8x256x256) off S1x256x256.size inb) : View sig .tc _ _ _).write (Elt F) f v Finset.univ i
      = if (i 0).val = e.val then v (ix3 0 (i 1) (i 2)) else f i := by
  have hset : (stM.view.slice (Rect.unit (s := S8x256x256) off S1x256x256.size inb)).setOn Finset.univ = (slotR e).set := by
    subst h; exact (View.set_slice _ _).trans Finset.map_refl
  by_cases hi : (i 0).val = e.val
  · rw [if_pos hi]
    have hx : i = (stM.access (Rect.unit (s := S8x256x256) off S1x256x256.size inb) : View sig .tc _ _ _).emb (ix3 0 (i 1) (i 2)) := by
      refine Eq.trans ?_ (slot_unit_emb e off h inb (ix3 0 (i 1) (i 2))).symm
      funext a
      match a with
      | ⟨0, _⟩ => exact Fin.ext hi
      | ⟨1, _⟩ => rfl
      | ⟨2, _⟩ => rfl
    exact write_at (stM.view.slice (Rect.unit (s := S8x256x256) off S1x256x256.size inb)) f v (ix3 0 (i 1) (i 2) : S1x256x256.Idx) i hx
  · rw [if_neg hi]
    exact write_off (stM.view.slice (Rect.unit (s := S8x256x256) off S1x256x256.size inb)) f v i (by rw [hset]; exact fun h' => hi (mem_slotR.mp h'))

/-- One transfer's landing: slot `p` of `c`'s staging buffer written to slot `c` of `p`'s landing buffer is what that slot is to hold. -/
theorem landed_eq (c p : Dev nD) (f : (cc0_scratch1 : Ref sig .tc).ty.Contents (Elt F))
    (off off' : Fin 3 → ℕ) (h : off = ![p.val, 0, 0]) (h' : off' = ![c.val, 0, 0]) (inb inb') (hu hu')
    (i : S8x256x256.Idx) (hi : i ∈ (slotR c).set) :
    (xaM.slice (Rect.unit (s := S8x256x256) off' S1x256x256.size inb') hu').view.write (Elt F) f
      ((stM.slice (Rect.unit (s := S8x256x256) off S1x256x256.size inb) hu).view.read (Elt F) (stageV m ρ c)) Finset.univ i = xaV m ρ p i := by
  have hc := mem_slotR.mp hi
  have hx : i = (xaM.slice (Rect.unit (s := S8x256x256) off' S1x256x256.size inb') hu').view.emb (ix3 0 (i 1) (i 2)) := by
    refine Eq.trans ?_ (slot_unit_emb c off' h' inb' (ix3 0 (i 1) (i 2))).symm
    funext a
    match a with
    | ⟨0, _⟩ => exact Fin.ext hc
    | ⟨1, _⟩ => rfl
    | ⟨2, _⟩ => rfl
  refine (write_at (xaM.slice (Rect.unit (s := S8x256x256) off' S1x256x256.size inb') hu').view f _ (ix3 0 (i 1) (i 2) : S1x256x256.Idx) i hx).trans ?_
  show stageV m ρ c ((Rect.unit (s := S8x256x256) off S1x256x256.size inb).emb (ix3 0 (i 1) (i 2))) = _
  rw [slot_unit_emb p off h inb]
  show stageV m ρ c (ix3 p (i 1) (i 2)) = stageV m ρ (i (0 : Fin 3)) (ix3 p (i 1) (i 2))
  rw [show (i (0 : Fin 3) : Dev nD) = c from Fin.ext hc]

omit [FloatOps F] in
/-- One item of those held. -/
theorem elim_one {I : Type} [DecidableEq I] {S : Finset I} {i : I} (h : i ∈ S) (A : I → sProp 𝕄) : bigSep S A ⊢ A i := bigSep_elim h
omit [FloatOps F] in
/-- One item taken from those to do. -/
theorem take_one {I : Type} [DecidableEq I] {S : Finset I} {i : I} (h : i ∈ S) (A : I → sProp 𝕄) : bigSep S A ⊢ iprop(A i ∗ bigSep (S.erase i) A) :=
  Entails.of_eq (bigSep_erase h)
omit [FloatOps F] in
/-- One item put with those done. -/
theorem put_one {I : Type} [DecidableEq I] {D : Finset I} {i : I} (h : i ∉ D) (B : I → sProp 𝕄) : iprop(B i ∗ bigSep D B) ⊢ bigSep (insert i D) B :=
  Entails.of_eq (bigSep_insert h).symm

/-! ## What the body holds -/

section Body

variable (K : Dev nD × CK → ℕ)

/-- Every cell's invariant at its name, and that every cell is at round 0 or later. -/
def records : sProp 𝕄 :=
  iprop((bigSep Finset.univ fun ck : Dev nD × CK => cellInv ER (xRd m ρ) (K ck) (kcell ck))
    ∗ bigSep Finset.univ fun ck : Dev nD × CK => reached ER (kcell ck) 0)

omit [FloatOps F] in
instance records_persistent : Persistent (records (F := F) m ρ K) := by unfold records; infer_instance

omit [FloatOps F] in
theorem records_inv (c : Dev nD) (k : CK) : records (F := F) m ρ K ⊢ cellInv ER (xRd m ρ) (K (c, k)) (kcell (c, k)) := by
  unfold records
  iintro ⟨H, -⟩
  iapply (elim_one (Finset.mem_univ (c, k)) fun ck : Dev nD × CK => cellInv ER (xRd m ρ) (K ck) (kcell ck)); iexact H
omit [FloatOps F] in
theorem records_reached (c : Dev nD) (k : CK) : records (F := F) m ρ K ⊢ reached ER (kcell (c, k)) 0 := by
  unfold records
  iintro ⟨-, H⟩
  iapply (elim_one (Finset.mem_univ (c, k)) fun ck : Dev nD × CK => reached ER (kcell ck) 0); iexact H

/-- What `c` owes, at some record of the waits it has made. -/
def debt (c : Dev nD) (O : CellTallies nD τ sig Unit) : sProp 𝕄 := iprop(∃ W, owes (c : Thread nD τ) O W)

/-- What the signal to device `d`'s barrier uses up. -/
def sigRes (c d : Dev nD) : sProp 𝕄 := iprop((∃ f, xaPts c d f) ∗ dutyTok ER (barCell d) 0 c)

/-- A barrier signal, to device `d`. -/
theorem step_signal (c d n : Dev nD) (hn : n = d) (hc : d ≠ c) (T : Finset (Dev nD)) (hd : d ∈ T)
    {α : Type} {Q : α → sProp 𝕄} {k : PUnit → Prog (TpuEff nD τ sig (Elt F) Λ₀ .tc) α} :
    iprop(records m ρ K ∗ debt c (sendO c masks + sigO T) ∗ bigSep T (sigRes c))
      ⊢ iprop(((debt c (sendO c masks + sigO (T.erase d)) ∗ bigSep (T.erase d) (sigRes c)) -∗ run c (k ⟨⟩) Q)
          -∗ run c (.op (.semSignal (Dev.tc n : Thread nD τ) barS (1#32 : BitVec 32).toInt) k) Q) := by
  subst hn
  iintro ⟨#Hrec, Ho, Hs⟩ Hk
  unfold debt
  icases Ho with ⟨%W, HO⟩
  ihave Hs := (take_one hd (sigRes c)) $$ Hs
  unfold sigRes
  icases Hs with ⟨⟨Hxa, Htok⟩, Hs⟩
  iapply (Rounds.wp_signal 𝒱₀ ER (xRd m ρ) (c : Thread nD τ) none (dst := (Dev.tc n : Thread nD τ)) (sem := barS) (κ := K (n, none)) (r := 0)
      (d := c) (k' := 1) (mem_bar m ρ c n hc.symm)
      (amount_cell m ρ n none 0 c) () (sendO c masks + sigO (T.erase n))
      (O₀ := sendO c masks + sigO T) (by rw [sigO_erase hd, add_assoc]) (W := W)) $$ [HO Htok Hxa]
  · isplitr; · iapply (records_inv m ρ K n none); iexact Hrec
    isplitl [HO]; · iexact HO
    isplitl [Htok]; · iexact Htok
    isplitl [Hxa]
    · rw [payload_bar m ρ n c]
      isplitl [Hxa]; · iexact Hxa
      iapply (records_reached m ρ K c (some (true, n))); iexact Hrec
    · iapply (records_reached m ρ K n none); iexact Hrec
  iintro HO
  iapply Hk
  isplitl [HO]; · iexists W; iexact HO
  iexact Hs

/-- The barrier wait: every other device's slot for `c` comes with it. -/
theorem step_barrier (c : Dev nD) {α : Type} {Q : α → sProp 𝕄} {k : PUnit → Prog (TpuEff nD τ sig (Elt F) Λ₀ .tc) α} :
    iprop(records m ρ K ∗ levAts L lv ∗ debt c (sendO c masks) ∗ cred (tallyAt (barCell c) () 7) ∗ atPos ER (barCell c) 0 ∅ 0)
      ⊢ iprop(((debt c (sendO c masks) ∗ atPos ER (barCell c) 1 ∅ 0 ∗ bigSep masks fun r => iprop(∃ f, xaPts (F := F) (par c r) c f)) -∗ run c (k ⟨⟩) Q)
          -∗ run c (.op (.semWait barS (7#32 : BitVec 32).toInt) k) Q) := by
  iintro ⟨#Hrec, #Hlev, Ho, HcB, HatB⟩ Hk
  unfold debt
  icases Ho with ⟨%W, HO⟩
  iapply (Rounds.wp_wait_rest_token 𝒱₀ ER (xRd m ρ) (c : Thread nD τ) none (κ := K (c, none))
      (wpE_semWait_eq 𝒱₀ (c : Thread nD τ) none Set.univ (k := 7)) (Set.mem_univ _) () (O := sendO c masks) (W := W) (R := 0) (m := 0) (T := ∅)
      (by rw [expect_bar])) $$ [HcB HO HatB]
  · isplitr; · iapply (records_inv m ρ K c none); iexact Hrec
    isplitl [HcB]; · iexact HcB
    isplitl [HO]; · iexact HO
    isplitr; · iapply (mayWait_bar c); iexact Hlev
    iexact HatB
  iintro ⟨HO, HatB, -, Hpay⟩
  ihave Hp := (Entails.of_eq ((rest_bar m ρ c).trans (bigSep_sep' masks _ _))) $$ Hpay
  icases Hp with ⟨Hp, -⟩
  iapply Hk
  isplitl [HO]; · iexists _; iexact HO
  isplitl [HatB]; · iexact HatB
  iexact Hp

/-- The staging buffer with its slots below `n` filled. -/
def staged (c : Dev nD) (n : ℕ) : sProp 𝕄 :=
  iprop(∃ f : (cc0_scratch0 : Ref sig .tc).ty.Contents (Elt F), ⌜∀ i : S8x256x256.Idx, (i 0).val < n → f i = stageV m ρ c i⌝ ∗ (((c : Thread nD τ).loc cc0_scratch0) ↦{fullShare} f))

/-- The staged block of `x`, owned whole. -/
def xPts (c : Dev nD) : sProp 𝕄 := ((c : Thread nD τ).loc cc0_stg0_0) ↦{fullShare} (xstg m ρ c)
/-- The staged `w`, owned whole. -/
def wPts (c : Dev nD) : sProp 𝕄 := ((c : Thread nD τ).loc cc0_stg1_0) ↦{fullShare} (wstg m ρ c)

/-- The staging of block `t`: its rows loaded, the slot read (and dropped), the rows stored there. -/
theorem step_stage (c : Dev nD) (t : Fin 8) (n n' : ℕ) (hn : t.val = n) (hn' : t.val + 1 = n') {off : Fin 2 → ℕ} (ho : off = ![256 * t.val, 0]) {inb} {off' : Fin 3 → ℕ} (ho' : off' = ![t.val, 0, 0]) {inb'}
    {pay : Vec F S256x256 .bf16 → FVec F S1x256x256 .bf16} (hpay : ∀ v y, pay v y = v (ix2 (y 1) (y 2)))
    {hl hl' hs hm} {α : Type} {Q : α → sProp 𝕄} {k : PUnit → Prog (TpuEff nD τ sig (Elt F) Λ₀ .tc) α} :
    iprop(xPts m ρ c ∗ staged m ρ c n)
      ⊢ iprop(((xPts m ρ c ∗ staged m ρ c n') -∗ run c (k ⟨⟩) Q)
          -∗ run c (.op (.load xM (Rect.unit (s := S2048x256) off S256x256.size inb).toLoadRect hl) fun v =>
              .op (.load stM (Rect.unit (s := S8x256x256) off' S1x256x256.size inb').toLoadRect hl') fun _ =>
              .op (.store stM (Rect.unit (s := S8x256x256) off' S1x256x256.size inb') (pay v) Finset.univ hs hm) k) Q) := by
  subst hn hn'
  unfold xPts staged
  iintro ⟨Hx, ⟨%f, %hf, Hst⟩⟩ Hk
  iapply (wp_load 𝒱₀ (c : Thread nD τ) none Set.univ (m := xM) (Finset.subset_univ _)) $$ Hx; iintro Hx
  rw [x_load t off ho]
  iapply (wp_load 𝒱₀ (c : Thread nD τ) none Set.univ (m := stM) (Finset.subset_univ _)) $$ Hst; iintro Hst
  iapply (wp_store 𝒱₀ (c : Thread nD τ) none Set.univ (m := stM) (r := Rect.unit (s := S8x256x256) off' S1x256x256.size inb') (f := f) (Mk := Finset.univ) (Finset.subset_univ _)) $$ Hst; iintro Hst
  iapply Hk
  isplitl [Hx]; · iexact Hx
  iexists _
  isplitr
  swap
  · iexact Hst
  ipureintro
  intro i hi
  refine (st_store t off' ho' inb' f _ i).trans ?_
  by_cases h : (i 0).val = t.val
  · rw [if_pos h, hpay]
    show xstg m ρ c (ix2 (rowOf t (i 1)) (i 2)) = xstg m ρ c (ix2 (rowOf (i 0) (i 1)) (i 2))
    rw [show (i 0 : Fin 8) = t from Fin.ext h]
  · rw [if_neg h]; exact hf i (by omega)

omit [FloatOps F] in
/-- Once all eight slots are filled, the buffer is its slots at their contents. -/
theorem staged_all (c : Dev nD) : staged (F := F) m ρ c 8 ⊢ bigSep Finset.univ fun e => stPts c e (stageV m ρ c) := by
  rw [← st_slots]
  unfold staged
  iintro ⟨%f, %hf, H⟩
  rw [show f = stageV m ρ c from funext fun i => hf i (i (0 : Fin 3)).isLt]
  iexact H
omit [FloatOps F] in
theorem staged_none (c : Dev nD) (f : (cc0_scratch0 : Ref sig .tc).ty.Contents (Elt F)) :
    (((c : Thread nD τ).loc cc0_scratch0) ↦{fullShare} f : sProp 𝕄) ⊢ staged (F := F) m ρ c 0 := by
  unfold staged
  iintro H; iexists f
  isplitr; · ipureintro; exact fun i h => absurd h (Nat.not_lt_zero _)
  iexact H

/-- What the transfer of mask `r` uses up, -/
def sendRes (c : Dev nD) (r : Fin 8) : sProp 𝕄 :=
  iprop(stPts c (par c r) (stageV m ρ c) ∗ (∃ f, xaPts (par c r) c f) ∗ dutyTok ER (sendCell c r) 0 0 ∗ dutyTok ER (recvCell (par c r) c) 0 0)
/-- and what it leaves: the credit of its send cell. -/
def sendCred (c : Dev nD) (r : Fin 8) : sProp 𝕄 := cred (tallyAt (sendCell c r) () N)

/-- The transfer of mask `r`. -/
theorem step_send (c n : Dev nD) (r : Fin 8) (hn : n = par c r) (hr : r ≠ 0) (S S' D D' : Finset (Fin 8))
    (hS : r ∈ S ∧ S.erase r = S') (hD : r ∉ D ∧ insert r D = D')
    {off off' : Fin 3 → ℕ} (ho : off = ![(par c r).val, 0, 0]) (ho' : off' = ![c.val, 0, 0]) {inb inb' hu hu'}
    {sS' sR' : DmaSem sig} (hsS : sS' = sS r) (hsR : sR' = rS c)
    {hsc} {hsrc} {hdst} {hsem}
    {α : Type} {Q : α → sProp 𝕄} {k : PUnit → Prog (TpuEff nD τ sig (Elt F) Λ₀ .tc) α} :
    iprop(records m ρ K ∗ debt c (sendO c S) ∗ bigSep S (sendRes m ρ c) ∗ bigSep D (sendCred c))
      ⊢ iprop(((debt c (sendO c S') ∗ bigSep S' (sendRes m ρ c) ∗ bigSep D' (sendCred c)) -∗ run c (k ⟨⟩) Q)
          -∗ run c (.op (.enqueueDma (stM.slice (Rect.unit (s := S8x256x256) off S1x256x256.size inb) hu)
              (.remote (Dev.tc n : Thread nD τ) (xaM.slice (Rect.unit (s := S8x256x256) off' S1x256x256.size inb') hu') (.dma sS') hsc)
              (.dma sR') hsrc hdst hsem) k) Q) := by
  obtain ⟨hS, rfl⟩ := hS
  obtain ⟨hD, rfl⟩ := hD
  subst hn hsS hsR
  iintro ⟨#Hrec, Ho, Hs, Hd⟩ Hk
  unfold debt
  icases Ho with ⟨%W, HO⟩
  ihave Hs := (take_one hS (sendRes m ρ c)) $$ Hs
  icases Hs with ⟨Hr, Hs⟩
  unfold sendRes stPts xaPts
  icases Hr with ⟨Hst, ⟨%fd, Hxa⟩, Ht1, Ht2⟩
  have hne : c ≠ par c r := (par_ne c r hr).symm
  iapply (Rounds.wp_send_pointsTo 𝒱₀ ER (xRd m ρ) (c : Thread nD τ) none (κ₁ := K (c, some (false, r))) (κ₂ := K (par c r, some (true, c)))
    (src := stM.slice (Rect.unit (s := S8x256x256) off S1x256x256.size inb) hu)
    (dst := xaM.slice (Rect.unit (s := S8x256x256) off' S1x256x256.size inb') hu')
    (sS := .dma (sS r)) (sem := .dma (rS c)) (c' := (Dev.tc (par c r) : Thread nD τ))
    (r₁ := 0) (r₂ := 0) (d₁ := (0 : Dev nD)) (d₂ := (0 : Dev nD)) (fs := stageV m ρ c) (fd := fd) (q := fullShare)
    (mem_send m ρ c r hr) (mem_recv m ρ (par c r) c hne)
    () () N rfl (amount_cell m ρ c (some (false, r)) 0 0) (amount_cell m ρ (par c r) (some (true, c)) 0 0)
    (sendO c (S.erase r)) (sendO_erase c hS) (W := W)
    (by rw [payload_send m ρ c r, st_set (par c r) off ho]; exact Entails.refl _)
    (by
      rw [payload_recv m ρ (par c r) c, xa_set c off' ho']; unfold xaPts
      exact Entails.of_eq (pointsTo_congr fun i hi => landed_eq m ρ c (par c r) fd off off' ho ho' inb inb' hu hu' i hi)))
    $$ [HO Hst Hxa Ht1 Ht2]
  · isplitr; · iapply (records_inv m ρ K c (some (false, r))); iexact Hrec
    isplitr; · iapply (records_inv m ρ K (par c r) (some (true, c))); iexact Hrec
    isplitl [Hst]; · rw [st_set (par c r) off ho]; iexact Hst
    isplitl [Hxa]; · rw [xa_set c off' ho']; iexact Hxa
    isplitl [HO]; · iexact HO
    isplitl [Ht1]; · iexact Ht1
    isplitr; · iapply (records_reached m ρ K c (some (false, r))); iexact Hrec
    isplitl [Ht2]; · iexact Ht2
    iapply (records_reached m ρ K (par c r) (some (true, c))); iexact Hrec
  iintro ⟨Hc, HO⟩
  iapply Hk
  isplitl [HO]; · iexists W; iexact HO
  isplitl [Hs]; · iexact Hs
  iapply (put_one hD (sendCred c))
  isplitl [Hc]; · unfold sendCred; iexact Hc
  iexact Hd

/-- The block of mask `r` as the product reads it: the rows of device `par c r`'s block for `c`, -/
def blkA (c : Dev nD) (r : Fin 8) : Vec F S1x256x256 .bf16 := fun y => stageV m ρ (par c r) (ix3 c (y 1) (y 2))
/-- and the rows of `w` they meet. -/
def blkW (c : Dev nD) (r : Fin 8) : Vec F S256x2048 .bf16 := fun y => wstg m ρ c (ix2 (rowOf (par c r) (y 0)) (y 1))

/-- What the wait for mask `r`'s block uses up, -/
def recvRes (c : Dev nD) (r : Fin 8) : sProp 𝕄 := iprop(cred (tallyAt (recvCell c (par c r)) () N) ∗ atPos ER (recvCell c (par c r)) 0 ∅ 0)
/-- and what it leaves. -/
def recvDone (c : Dev nD) (r : Fin 8) : sProp 𝕄 := iprop(xaPts c (par c r) (xaV m ρ c) ∗ atPos ER (recvCell c (par c r)) 1 ∅ 0)

/-- The wait for the block of mask `r`, the loads of that block and of its rows of `w`. -/
theorem step_recv (c : Dev nD) (r : Fin 8) (hr : r ≠ 0) (S S' D D' : Finset (Fin 8))
    (hS : r ∈ S ∧ S.erase r = S') (hD : r ∉ D ∧ insert r D = D')
    {sR' : DmaSem sig} (hsR : sR' = rS (par c r))
    {off off' off₁ : Fin 3 → ℕ} {off₂ : Fin 2 → ℕ} (ho₁ : off₁ = ![(par c r).val, 0, 0]) (ho₂ : off₂ = ![256 * (par c r).val, 0])
    {inb inb' inb₁ inb₂ hu hu' h₁ h₂ hl hl'}
    {α : Type} {Q : α → sProp 𝕄} {k : Vec F S1x256x256 .bf16 → Vec F S256x2048 .bf16 → Prog (TpuEff nD τ sig (Elt F) Λ₀ .tc) α} :
    iprop(records m ρ K ∗ debt c 0 ∗ wPts m ρ c ∗ bigSep S (recvRes c) ∗ bigSep D (recvDone m ρ c))
      ⊢ iprop(((debt c 0 ∗ wPts m ρ c ∗ bigSep S' (recvRes c) ∗ bigSep D' (recvDone m ρ c)) -∗ run c (k (blkA m ρ c r) (blkW m ρ c r)) Q)
          -∗ run c (.op (.waitDma2 sR' (stM.slice (Rect.unit (s := S8x256x256) off S1x256x256.size inb) hu) (xaM.slice (Rect.unit (s := S8x256x256) off' S1x256x256.size inb') hu') h₁ h₂) fun _ =>
              .op (.load xaM (Rect.unit (s := S8x256x256) off₁ S1x256x256.size inb₁).toLoadRect hl) fun a =>
              .op (.load wM (Rect.unit (s := S2048x2048) off₂ S256x2048.size inb₂).toLoadRect hl') fun w => k a w) Q) := by
  obtain ⟨hS, rfl⟩ := hS
  obtain ⟨hD, rfl⟩ := hD
  subst hsR
  iintro ⟨#Hrec, Ho, Hw, Hs, Hd⟩ Hk
  unfold debt
  icases Ho with ⟨%W, HO⟩
  ihave Hs := (take_one hS (recvRes c)) $$ Hs
  icases Hs with ⟨Hr, Hs⟩
  unfold recvRes
  icases Hr with ⟨Hc, Hat⟩
  have hne : par c r ≠ c := par_ne c r hr
  iapply (Rounds.wp_wait_rest_token 𝒱₀ ER (xRd m ρ) (c : Thread nD τ) none (κ := K (c, some (true, par c r)))
      (wpE_waitDma2_eq 𝒱₀ (c : Thread nD τ) none Set.univ) (Set.mem_univ _) () (O := 0) (W := W) (R := 0) (m := 0) (T := ∅)
      (by rw [Nat.zero_add, expect_recv m ρ c (par c r) hne]; rfl)) $$ [Hc HO Hat]
  · isplitr; · iapply (records_inv m ρ K c (some (true, par c r))); iexact Hrec
    isplitl [Hc]; · iexact Hc
    isplitl [HO]; · iexact HO
    isplitr; · rw [MayWait_zero]; iempintro
    iexact Hat
  iintro ⟨HO, Hat, -, Hpay⟩
  ihave Hxa := (Entails.of_eq (rest_recv m ρ c (par c r) hne)) $$ Hpay
  unfold xaPts wPts
  iapply (wp_load 𝒱₀ (c : Thread nD τ) none Set.univ (m := xaM) (xa_load_set (par c r) off₁ ho₁ inb₁)) $$ Hxa; iintro Hxa
  rw [xa_load (par c r) off₁ ho₁]
  iapply (wp_load 𝒱₀ (c : Thread nD τ) none Set.univ (m := wM) (Finset.subset_univ _)) $$ Hw; iintro Hw
  rw [w_load (par c r) off₂ ho₂]
  iapply Hk
  isplitl [HO]; · iexists _; iexact HO
  isplitl [Hw]; · iexact Hw
  isplitl [Hs]; · iexact Hs
  iapply (put_one hD (recvDone m ρ c))
  unfold recvDone xaPts
  isplitl [Hxa Hat]
  · isplitl [Hxa] <;> iassumption
  iexact Hd

/-- The loads of a device's own block and of its rows of `w`. -/
theorem step_own (c : Dev nD) {off₁ : Fin 3 → ℕ} {off₂ : Fin 2 → ℕ} (ho₁ : off₁ = ![c.val, 0, 0]) (ho₂ : off₂ = ![256 * c.val, 0])
    {inb₁ inb₂ hl hl'}
    {α : Type} {Q : α → sProp 𝕄} {k : Vec F S1x256x256 .bf16 → Vec F S256x2048 .bf16 → Prog (TpuEff nD τ sig (Elt F) Λ₀ .tc) α} :
    iprop(stPts c c (stageV m ρ c) ∗ wPts m ρ c)
      ⊢ iprop(((stPts c c (stageV m ρ c) ∗ wPts m ρ c) -∗ run c (k (blkA m ρ c 0) (blkW m ρ c 0)) Q)
          -∗ run c (.op (.load stM (Rect.unit (s := S8x256x256) off₁ S1x256x256.size inb₁).toLoadRect hl) fun a =>
              .op (.load wM (Rect.unit (s := S2048x2048) off₂ S256x2048.size inb₂).toLoadRect hl') fun w => k a w) Q) := by
  unfold stPts wPts blkA blkW
  rw [par_zero c]
  iintro ⟨Hst, Hw⟩ Hk
  iapply (wp_load 𝒱₀ (c : Thread nD τ) none Set.univ (m := stM) (st_load_set c off₁ ho₁ inb₁)) $$ Hst; iintro Hst
  rw [st_load c off₁ ho₁]
  iapply (wp_load 𝒱₀ (c : Thread nD τ) none Set.univ (m := wM) (Finset.subset_univ _)) $$ Hw; iintro Hw
  rw [w_load c off₂ ho₂]
  iapply Hk
  isplitl [Hst] <;> iassumption

/-- What the send wait of mask `r` uses up, -/
def backRes (c : Dev nD) (r : Fin 8) : sProp 𝕄 := iprop(sendCred c r ∗ atPos ER (sendCell c r) 0 ∅ 0)
/-- and what it leaves. -/
def backDone (c : Dev nD) (r : Fin 8) : sProp 𝕄 := iprop(stPts c (par c r) (stageV m ρ c) ∗ atPos ER (sendCell c r) 1 ∅ 0)

/-- The send wait of mask `r`. -/
theorem step_back (c : Dev nD) (r : Fin 8) (hr : r ≠ 0) (S S' D D' : Finset (Fin 8))
    (hS : r ∈ S ∧ S.erase r = S') (hD : r ∉ D ∧ insert r D = D')
    {sS' : DmaSem sig} (hsS : sS' = sS r) {off off' : Fin 3 → ℕ} {inb inb' hu hu' h₁ h₂}
    {α : Type} {Q : α → sProp 𝕄} {k : PUnit → Prog (TpuEff nD τ sig (Elt F) Λ₀ .tc) α} :
    iprop(records m ρ K ∗ debt c 0 ∗ bigSep S (backRes c) ∗ bigSep D (backDone m ρ c))
      ⊢ iprop(((debt c 0 ∗ bigSep S' (backRes c) ∗ bigSep D' (backDone m ρ c)) -∗ run c (k ⟨⟩) Q)
          -∗ run c (.op (.waitDma2 sS' (xaM.slice (Rect.unit (s := S8x256x256) off S1x256x256.size inb) hu) (stM.slice (Rect.unit (s := S8x256x256) off' S1x256x256.size inb') hu') h₁ h₂) k) Q) := by
  obtain ⟨hS, rfl⟩ := hS
  obtain ⟨hD, rfl⟩ := hD
  subst hsS
  iintro ⟨#Hrec, Ho, Hs, Hd⟩ Hk
  unfold debt
  icases Ho with ⟨%W, HO⟩
  ihave Hs := (take_one hS (backRes c)) $$ Hs
  icases Hs with ⟨Hr, Hs⟩
  unfold backRes sendCred
  icases Hr with ⟨Hc, Hat⟩
  iapply (Rounds.wp_wait_rest_token 𝒱₀ ER (xRd m ρ) (c : Thread nD τ) none (κ := K (c, some (false, r)))
      (wpE_waitDma2_eq 𝒱₀ (c : Thread nD τ) none Set.univ) (Set.mem_univ _) () (O := 0) (W := W) (R := 0) (m := 0) (T := ∅)
      (by rw [Nat.zero_add, expect_send m ρ c r hr]; rfl)) $$ [Hc HO Hat]
  · isplitr; · iapply (records_inv m ρ K c (some (false, r))); iexact Hrec
    isplitl [Hc]; · iexact Hc
    isplitl [HO]; · iexact HO
    isplitr; · rw [MayWait_zero]; iempintro
    iexact Hat
  iintro ⟨HO, Hat, -, Hpay⟩
  ihave Hst := (Entails.of_eq (rest_send m ρ c r hr)) $$ Hpay
  iapply Hk
  isplitl [HO]; · iexists _; iexact HO
  isplitl [Hs]; · iexact Hs
  iapply (put_one hD (backDone m ρ c))
  unfold backDone
  isplitl [Hst Hat]
  · isplitl [Hst] <;> iassumption
  iexact Hd

end Body

end Cert.KernelIdealProof

end
-- ==== Proof.KernelIdealBody.lean ====
/-
The all-to-all kernel's body on a symbolic device: from the buffers, cells and tokens it starts with to the output block
it leaves, every cell of the device closed again.
-/
module

public import proofs.«01_k».proof.Proof.KernelIdealSteps
public import proofs.«01_k».proof.Proof.Gen.KernelIdeal.Points
public import Idealize.ShloMosaic.Lib.ValueLayout

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 ix3)

variable {F : FTy → Type} [FloatOps F]

local notation "𝕄" => MT nD τ sig Unit (Elt F) ℕ UU ℕ

variable (m : (ℓ : Loc nD τ sig) → Buf (Elt F) ℓ) (ρ : Dev nD → PrngReg)

/-- The output block of device `c`: the eight block products summed in the order the kernel takes the blocks (its own,
    then masks 1, 2, 4, 3, 5, 6, 7), then the larger of that and 0. -/
def outAt (c : Dev nD) : (cc0_stg2_0 : Ref sig .tc).ty.Contents (Elt F) :=
  let A := blkA m ρ c
  let B := blkW m ρ c
  k0_pay17 (k0_pay15 (k0_pay14 (k0_pay12 (k0_pay11 (k0_pay10 (A 0) (B 0) (A 1) (B 1)) (A 2) (B 2)) (A 4) (B 4))
    (k0_pay13 (A 3) (B 3)) (A 5) (B 5)) (A 6) (B 6)) (k0_pay16 (A 7)) (B 7)

/-! ## What a device starts and ends with -/

/-- A device's ghost state: every cell's record, its own cells at their start, the tokens of the duties it pays. -/
def ghost (K : Dev nD × CK → ℕ) (c : Dev nD) : sProp 𝕄 :=
  iprop(records m ρ K ∗ (bigSep Finset.univ fun k : CK => atPos ER (kcell (c, k)) 0 ∅ 0)
    ∗ (bigSep (others c) fun d => dutyTok ER (barCell d) 0 c)
    ∗ (bigSep masks fun r => dutyTok ER (sendCell c r) 0 0)
    ∗ (bigSep masks fun r => dutyTok ER (recvCell (par c r) c) 0 0))

/-- The credits a device is launched with: seven units of its barrier, one slot's bytes of each receive cell in use. -/
def credits (c : Dev nD) : sProp 𝕄 :=
  iprop(cred (tallyAt (barCell c) () 7) ∗ bigSep masks fun r => cred (tallyAt (recvCell c (par c r)) () N))

/-- What a device holds when its body starts, besides its buffers. -/
def start (c : Dev nD) : sProp 𝕄 := iprop((∃ K, ghost m ρ K c) ∗ credits c ∗ levAts L lv)

/-- The staging and landing buffers whole, at some contents. -/
def scratch (c : Dev nD) : sProp 𝕄 :=
  iprop((∃ f : (cc0_scratch0 : Ref sig .tc).ty.Contents (Elt F), ((c : Thread nD τ).loc cc0_scratch0) ↦{fullShare} f)
    ∗ ∃ f : (cc0_scratch1 : Ref sig .tc).ty.Contents (Elt F), ((c : Thread nD τ).loc cc0_scratch1) ↦{fullShare} f)

/-- What the body is entered with. -/
def Φ₀ (c : Dev nD) : sProp 𝕄 := iprop(start m ρ c ∗ scratch c)
/-- After the body: the scratch buffers, the device's own semaphores at zero, the barrier semaphore at zero. -/
def Φ₁ (c : Dev nD) : sProp 𝕄 := iprop(scratch (F := F) c ∗ (bigSep Finset.univ fun bj : Bool × Fin 8 => semVal ((c : Thread nD τ), osem bj) 0) ∗ semVal (barCell c) 0)

/-- The launch's data: each window's contents before and after the body, and what the body is entered and left with. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => wstg m ρ c
    | ⟨2, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The pieces of a device's cells -/

omit [FloatOps F] in
theorem bigSep_bool (Φ : Bool → sProp 𝕄) : bigSep Finset.univ Φ = iprop(Φ false ∗ Φ true) := by
  rw [bigSep_univ_equiv Equiv.boolEquivPUnitSumPUnit.{0,0}.symm, bigSep_univ_sum, bigSep_univ_of_subsingleton PUnit.unit,
    bigSep_univ_of_subsingleton PUnit.unit]
  rfl
omit [FloatOps F] in
/-- A conjunction over a device's cells, kind by kind. -/
theorem bigSep_cells (Φ : CK → sProp 𝕄) :
    bigSep Finset.univ Φ = iprop(Φ none ∗ (bigSep Finset.univ fun j => Φ (some (false, j))) ∗ bigSep Finset.univ fun j => Φ (some (true, j))) := by
  rw [bigSep_univ_equiv (Equiv.optionEquivSumPUnit.{0,0} (Bool × Fin 8)).symm, bigSep_univ_sum, bigSep_univ_prod,
    bigSep_univ_of_subsingleton PUnit.unit, bigSep_bool]
  exact equiv_iff.mp ⟨BI.sep_comm, BI.sep_comm⟩

omit [FloatOps F] in
/-- The landing buffer by slot, a device's own slot first. -/
theorem xa_own (c : Dev nD) (f : (cc0_scratch1 : Ref sig .tc).ty.Contents (Elt F)) :
    (((c : Thread nD τ).loc cc0_scratch1) ↦{fullShare} f : sProp 𝕄) ⊢ iprop(xaPts c c f ∗ bigSep (others c) fun e => xaPts c e f) :=
  Entails.of_eq ((xa_slots c f).trans (bigSep_erase (Finset.mem_univ c)))

omit [FloatOps F] in
/-- Slots split in a device's own and the others', by mask. -/
theorem bigSep_own (c : Dev nD) (Φ : Dev nD → sProp 𝕄) : bigSep Finset.univ Φ = iprop(Φ c ∗ bigSep masks fun r => Φ (par c r)) := by
  rw [bigSep_erase (Finset.mem_univ c), bigSep_par c Φ]; rfl
omit [FloatOps F] in
/-- Masks split in mask 0 and the seven in use. -/
theorem bigSep_zero (Φ : Fin 8 → sProp 𝕄) : bigSep Finset.univ Φ = iprop(Φ 0 ∗ bigSep masks Φ) := bigSep_erase (Finset.mem_univ 0)

/-- The barriers still to be signalled when `n` have been: those further than `n` ahead of `c`. -/
def sigTo (c : Dev nD) (n : ℕ) : Finset (Dev nD) := Finset.univ.filter fun d => n < (d - c).val
/-- Before the first signal all other devices are unsignalled. -/
theorem sigTo_zero (c : Dev nD) : sigTo c 0 = others c := by revert c; decide
/-- After the seventh none is. -/
theorem sigTo_seven (c : Dev nD) : sigTo c 7 = ∅ := by revert c; decide
/-- The device signalled next has not been signalled. -/
theorem mem_sigTo (c : Dev nD) (j : Fin 8) (h : j ≠ 0) : c + j ∈ sigTo c (j.val - 1) := by revert c j; decide
/-- Signalling it takes it out of those left. -/
theorem sigTo_erase (c : Dev nD) (j : Fin 8) (h : j ≠ 0) : (sigTo c (j.val - 1)).erase (c + j) = sigTo c j.val := by revert c j; decide
/-- A signal's target is another device. -/
theorem add_ne (c : Dev nD) (j : Fin 8) (h : j ≠ 0) : c + j ≠ c := by revert c j; decide

section Body

variable (K : Dev nD × CK → ℕ)

/-- The `i'`-th barrier signal, after `i` of them. -/
theorem step_signal_at (c n : Dev nD) (j : Fin 8) (i i' : ℕ) (hi : j.val - 1 = i) (hi' : j.val = i') (hn : n = c + j) (hj : j ≠ 0)
    {α : Type} {Q : α → sProp 𝕄} {k : PUnit → Prog (TpuEff nD τ sig (Elt F) Λ₀ .tc) α} :
    iprop(records m ρ K ∗ debt c (sendO c masks + sigO (sigTo c i)) ∗ bigSep (sigTo c i) (sigRes c))
      ⊢ iprop(((debt c (sendO c masks + sigO (sigTo c i')) ∗ bigSep (sigTo c i') (sigRes c)) -∗ run c (k ⟨⟩) Q)
          -∗ run c (.op (.semSignal (Dev.tc n : Thread nD τ) barS (1#32 : BitVec 32).toInt) k) Q) := by
  subst hi hi'
  have h := step_signal m ρ K c (c + j) n hn (add_ne c j hj) (sigTo c (j.val - 1)) (mem_sigTo c j hj) (Q := Q) (k := k)
  rwa [sigTo_erase c j hj] at h

/-! ### The device's cells close -/

/-- A cell of `c` at the end of its rounds. -/
def ended (c : Dev nD) (k : CK) : sProp 𝕄 := iprop(∃ R, ⌜∀ r, R ≤ r → (xRd (F := F) m ρ).duties (kcell (c, k)) r = ∅⌝ ∗ atPos ER (kcell (c, k)) R ∅ 0)

omit [FloatOps F] in
theorem ended_after (c : Dev nD) (k : CK) : atPos ER (kcell (c, k)) 1 ∅ 0 ⊢ ended (F := F) m ρ c k := by
  unfold ended
  iintro H; iexists 1
  isplitr; · ipureintro; exact duties_later m ρ _
  iexact H
omit [FloatOps F] in
theorem ended_idle (c : Dev nD) (k : CK) (h : dutiesK c k = ∅) : atPos ER (kcell (c, k)) 0 ∅ 0 ⊢ ended (F := F) m ρ c k := by
  unfold ended
  iintro H; iexists 0
  isplitr
  · ipureintro
    intro r _
    rcases Nat.eq_zero_or_pos r with rfl | hr
    · rw [duties_cell, h]
    · exact duties_later m ρ _ r hr
  iexact H

omit [FloatOps F] in
theorem close_cell (c : Dev nD) (k : CK) : iprop(records m ρ K ∗ ended m ρ c k) ⊢ (|={Set.univ}=> semVal (kcell (c, k)) 0 : sProp 𝕄) := by
  unfold ended
  iintro ⟨#Hrec, ⟨%R, %hR, Hat⟩⟩
  iapply (Rounds.cell_close ER (xRd m ρ) (Set.mem_univ (K (c, k))) (fun h => h) (R := R) hR)
  isplitr; · iapply (records_inv m ρ K c k); iexact Hrec
  iexact Hat

omit [FloatOps F] in
/-- All of a device's cells close. -/
theorem close_cells (c : Dev nD) :
    iprop(records m ρ K ∗ bigSep Finset.univ (ended m ρ c)) ⊢ (|={Set.univ}=> bigSep Finset.univ fun k : CK => semVal (kcell (c, k)) 0 : sProp 𝕄) :=
  (bigSep_with_persistent fun k _ => close_cell m ρ K c k).trans (bigSep_fupd _ _)

/-! ### The run -/

abbrev t₀ : Fin cfg0.N := t0_0

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- The body's precondition. -/
def bodyPre (c : Dev nD) : sProp 𝕄 :=
  iprop((ghost m ρ K c ∗ credits c ∗ levAts L lv ∗ scratch c)
    ∗ (dats m ρ 0 c).owesAt () t₀.castSucc
    ∗ (∃ d, stg c cc0_stg0_0 ((dats m ρ 0 c).before (0 : Fin 3) t₀ d))
    ∗ (∃ d, stg c cc0_stg1_0 ((dats m ρ 0 c).before (1 : Fin 3) t₀ d))
    ∗ (∃ d, stg c cc0_stg2_0 ((dats m ρ 0 c).before (2 : Fin 3) t₀ d)))

/-- The body's postcondition. -/
def bodyPost (c : Dev nD) : sProp 𝕄 :=
  iprop(Φ₁ c ∗ (dats m ρ 0 c).owesAt () t₀.succ ∗ stg c cc0_stg0_0 (xstg m ρ c) ∗ stg c cc0_stg1_0 (wstg m ρ c) ∗ stg c cc0_stg2_0 (outAt m ρ c))

/-! ### What the run's pieces are made of -/

/-- What the launch says is owed at the start, by duties. -/
theorem owesAt_debt (c : Dev nD) : (dats m ρ 0 c).owesAt () t₀.castSucc ⊢ (debt c (sendO c masks + sigO (sigTo c 0)) : sProp 𝕄) := by
  unfold Dat.owesAt Pipeline.owesWithin debt
  rw [show (dats m ρ 0 c).owed t₀.castSucc = O₀ c from rfl, sigTo_zero]
  iintro ⟨%W, -, HO⟩
  iexists W; iexact HO
/-- Nothing is owed at the end. -/
theorem debt_owesAt (c : Dev nD) : (debt c 0 : sProp 𝕄) ⊢ (dats m ρ 0 c).owesAt () t₀.succ := by
  unfold Dat.owesAt Pipeline.owesWithin debt
  rw [show (dats m ρ 0 c).owed t₀.succ = 0 from rfl]
  iintro ⟨%W, HO⟩
  iexists W
  isplitr; · ipureintro; exact fun _ _ => Or.inl trivial
  iexact HO
omit [FloatOps F] in
theorem debt_sent (c : Dev nD) : (debt c (sendO c masks + sigO (sigTo c 7)) : sProp 𝕄) ⊢ debt c (sendO c masks) := by
  rw [sigTo_seven, sigO_empty, add_zero]
/-- The masks in the order the kernel takes them. -/
def maskSeq : List (Fin 8) := [1, 2, 4, 3, 5, 6, 7]
/-- The masks left once the first `n` have been taken, and those taken. -/
abbrev left (n : ℕ) : Finset (Fin 8) := (maskSeq.drop n).toFinset
/-- The first `n` masks in the kernel's order. -/
abbrev took (n : ℕ) : Finset (Fin 8) := (maskSeq.take n).toFinset
theorem left_zero : left 0 = masks := by decide
theorem left_seven : left 7 = ∅ := by decide
theorem took_zero : took 0 = ∅ := by decide
theorem took_seven : took 7 = masks := by decide
omit [FloatOps F] in
theorem debt_start (c : Dev nD) : (debt c (sendO c masks) : sProp 𝕄) ⊢ debt c (sendO c (left 0)) := by
  rw [left_zero]
omit [FloatOps F] in
theorem debt_paid (c : Dev nD) : (debt c (sendO c (left 7)) : sProp 𝕄) ⊢ debt c 0 := by
  rw [left_seven, sendO_empty]
omit [FloatOps F] in
theorem none_took (Φ : Fin 8 → sProp 𝕄) : (iprop(emp) : sProp 𝕄) ⊢ bigSep (took 0) Φ := by
  rw [took_zero, bigSep_empty]; exact Entails.refl _

omit [FloatOps F] in
theorem sigRes_intro (c : Dev nD) (f : (cc0_scratch1 : Ref sig .tc).ty.Contents (Elt F)) :
    iprop((bigSep (others c) fun e => xaPts c e f) ∗ bigSep (others c) fun d => dutyTok ER (barCell d) 0 c)
      ⊢ (bigSep (sigTo c 0) (sigRes c) : sProp 𝕄) := by
  rw [sigTo_zero]
  have h (d : Dev nD) : iprop(xaPts c d f ∗ dutyTok ER (barCell d) 0 c) ⊢ (sigRes (F := F) c d : sProp 𝕄) := by
    unfold sigRes
    iintro ⟨H1, H2⟩
    isplitl [H1]; · iexists f; iexact H1
    iexact H2
  exact (Entails.of_eq (bigSep_sep' (others c) _ _).symm).trans (bigSep_mono fun d _ => h d)

omit [FloatOps F] in
theorem sendRes_intro (c : Dev nD) :
    iprop((bigSep masks fun r => stPts c (par c r) (stageV m ρ c)) ∗ (bigSep masks fun r => iprop(∃ f, xaPts (F := F) (par c r) c f))
        ∗ (bigSep masks fun r => dutyTok ER (sendCell c r) 0 0) ∗ (bigSep masks fun r => dutyTok ER (recvCell (par c r) c) 0 0))
      ⊢ (bigSep (left 0) (sendRes m ρ c) : sProp 𝕄) := by
  rw [left_zero, ← bigSep_sep', ← bigSep_sep', ← bigSep_sep']
  exact Entails.refl _
omit [FloatOps F] in
theorem recvRes_intro (c : Dev nD) :
    iprop((bigSep masks fun r => cred (tallyAt (recvCell c (par c r)) () N)) ∗ (bigSep masks fun r => atPos ER (kcell (c, some (true, par c r))) 0 ∅ 0))
      ⊢ (bigSep (left 0) (recvRes c) : sProp 𝕄) := by
  rw [left_zero, ← bigSep_sep']
  exact Entails.refl _
omit [FloatOps F] in
theorem backRes_intro (c : Dev nD) :
    iprop(bigSep (took 7) (sendCred c) ∗ (bigSep masks fun r => atPos ER (kcell (c, some (false, r))) 0 ∅ 0))
      ⊢ (bigSep (left 0) (backRes c) : sProp 𝕄) := by
  rw [left_zero, took_seven, ← bigSep_sep']
  exact Entails.refl _
omit [FloatOps F] in
theorem backDone_all (c : Dev nD) :
    bigSep (took 7) (backDone m ρ c)
      ⊢ (iprop((bigSep masks fun r => stPts c (par c r) (stageV m ρ c)) ∗ (bigSep masks fun r => atPos ER (sendCell c r) 1 ∅ 0)) : sProp 𝕄) := by
  rw [took_seven, ← bigSep_sep']
  exact Entails.refl _
omit [FloatOps F] in
theorem recvDone_all (c : Dev nD) :
    bigSep (took 7) (recvDone m ρ c)
      ⊢ (iprop((bigSep masks fun r => xaPts c (par c r) (xaV m ρ c)) ∗ (bigSep masks fun r => atPos ER (recvCell c (par c r)) 1 ∅ 0)) : sProp 𝕄) := by
  rw [took_seven, ← bigSep_sep']
  exact Entails.refl _

omit [FloatOps F] in
/-- All of a device's cells close, from where the body leaves them. -/
theorem close_all (c : Dev nD) :
    iprop(records m ρ K ∗ atPos ER (barCell c) 1 ∅ 0 ∗ atPos ER (kcell (c, some (false, 0))) 0 ∅ 0 ∗ (bigSep masks fun r => atPos ER (sendCell c r) 1 ∅ 0)
        ∗ atPos ER (kcell (c, some (true, c))) 0 ∅ 0 ∗ (bigSep masks fun r => atPos ER (recvCell c (par c r)) 1 ∅ 0))
      ⊢ (|={Set.univ}=> iprop(semVal (barCell c) 0 ∗ bigSep Finset.univ fun bj : Bool × Fin 8 => semVal ((c : Thread nD τ), osem bj) 0) : sProp 𝕄) := by
  iintro ⟨#Hrec, HB, HS0, HS, HV0, HV⟩
  imod (close_cells m ρ K c) $$ [HB HS0 HS HV0 HV] with Hz
  · isplitr; · iexact Hrec
    rw [bigSep_cells]
    isplitl [HB]; · iapply (ended_after m ρ c none); iexact HB
    isplitl [HS0 HS]
    · rw [bigSep_zero]
      isplitl [HS0]; · iapply (ended_idle m ρ c (some (false, 0)) rfl); iexact HS0
      iapply (show (bigSep masks fun r => atPos ER (sendCell c r) 1 ∅ 0) ⊢ bigSep masks fun r => ended m ρ c (some (false, r)) from bigSep_mono fun r _ => ended_after m ρ c (some (false, r))); iexact HS
    · rw [bigSep_own c]
      isplitl [HV0]; · iapply (ended_idle m ρ c (some (true, c)) (if_pos rfl)); iexact HV0
      iapply (show (bigSep masks fun r => atPos ER (recvCell c (par c r)) 1 ∅ 0) ⊢ bigSep masks fun r => ended m ρ c (some (true, par c r)) from bigSep_mono fun r _ => ended_after m ρ c (some (true, par c r))); iexact HV
  ihave Hz := (Entails.of_eq (bigSep_cells fun k : CK => (semVal (kcell (c, k)) 0 : sProp 𝕄))) $$ Hz
  icases Hz with ⟨HzB, HzS, HzV⟩
  imodintro
  isplitl [HzB]; · iexact HzB
  rw [bigSep_univ_prod, bigSep_bool]
  isplitl [HzS] <;> iassumption

omit [FloatOps F] in
/-- The scratch buffers whole again, from their slots. -/
theorem scratch_back (c : Dev nD) (f : (cc0_scratch1 : Ref sig .tc).ty.Contents (Elt F)) :
    iprop(stPts c c (stageV m ρ c) ∗ (bigSep masks fun r => stPts c (par c r) (stageV m ρ c)) ∗ xaPts c c f ∗ (bigSep masks fun r => xaPts c (par c r) (xaV m ρ c)))
      ⊢ (scratch (F := F) c : sProp 𝕄) := by
  unfold scratch
  iintro ⟨H1, H2, H3, H4⟩
  isplitl [H1 H2]
  · iexists (stageV m ρ c)
    rw [st_slots, bigSep_own c]
    isplitl [H1] <;> iassumption
  · iapply (xa_join c f)
    rw [bigSep_own c]
    isplitl [H3]; · iexists f; iexact H3
    have h (e : Dev nD) : xaPts c e (xaV m ρ c) ⊢ (iprop(∃ g, xaPts (F := F) c e g) : sProp 𝕄) := by
      iintro H; iexists (xaV m ρ c); iexact H
    iapply (show (bigSep masks fun r => xaPts c (par c r) (xaV m ρ c)) ⊢ (bigSep masks fun r => iprop(∃ g, xaPts (F := F) c (par c r) g) : sProp 𝕄) from
      bigSep_mono fun r _ => h (par c r))
    iexact H4

/-- A 256 by 256 block given a leading unit axis. -/
theorem cast_row (v : Vec F S256x256 .bf16) (y : S1x256x256.Idx) :
    shapeCast S1x256x256 (shapeCast S256x256 v shapeCasts_S256x256_S256x256) shapeCasts_S256x256_S1x256x256 y = v (ix2 (y 1) (y 2)) := by
  rw [shapeCast_self]
  refine (congrArg _ (ValueIdx.eq_ix3 y)).trans ?_
  exact Idealize.ShloMosaic.ValueIdx.shapeCast_ab_1ab_apply _ _ _ _ _

/-! ### The staged vectors: the rows read, one leading unit axis added -/

/-- The value stored into each staging slot is the rows loaded, element by element. -/
theorem pay_stage0 (v : Vec F S256x256 .bf16) (y : S1x256x256.Idx) : (k0_pay1 v : FVec F S1x256x256 .bf16) y = v (ix2 (y 1) (y 2)) := by
  unfold k0_pay1; exact cast_row v y
theorem pay_stage1 (v : Vec F S256x256 .bf16) (y : S1x256x256.Idx) : (k0_pay2 v : FVec F S1x256x256 .bf16) y = v (ix2 (y 1) (y 2)) := by
  unfold k0_pay2; exact cast_row v y
theorem pay_stage2 (v : Vec F S256x256 .bf16) (y : S1x256x256.Idx) : (k0_pay3 v : FVec F S1x256x256 .bf16) y = v (ix2 (y 1) (y 2)) := by
  unfold k0_pay3; exact cast_row v y
theorem pay_stage3 (v : Vec F S256x256 .bf16) (y : S1x256x256.Idx) : (k0_pay5 (k0_pay4 v) : FVec F S1x256x256 .bf16) y = v (ix2 (y 1) (y 2)) := by
  unfold k0_pay5 k0_pay4; exact cast_row v y
theorem pay_stage4 (v : Vec F S256x256 .bf16) (y : S1x256x256.Idx) : (k0_pay6 v : FVec F S1x256x256 .bf16) y = v (ix2 (y 1) (y 2)) := by
  unfold k0_pay6; exact cast_row v y
theorem pay_stage5 (v : Vec F S256x256 .bf16) (y : S1x256x256.Idx) : (k0_pay7 v : FVec F S1x256x256 .bf16) y = v (ix2 (y 1) (y 2)) := by
  unfold k0_pay7; exact cast_row v y
theorem pay_stage6 (v : Vec F S256x256 .bf16) (y : S1x256x256.Idx) : (k0_pay8 v : FVec F S1x256x256 .bf16) y = v (ix2 (y 1) (y 2)) := by
  unfold k0_pay8; exact cast_row v y
theorem pay_stage7 (v : Vec F S256x256 .bf16) (y : S1x256x256.Idx) : (k0_pay9 v : FVec F S1x256x256 .bf16) y = v (ix2 (y 1) (y 2)) := by
  unfold k0_pay9; exact cast_row v y

omit [FloatOps F] in
theorem hz : (![0, 0] : Fin 2 → Nat) = fun _ => 0 := funext fun a => by fin_cases a <;> rfl
omit [FloatOps F] in
theorem write_out (f w : (cc0_stg2_0 : Ref sig .tc).ty.Contents (Elt F)) :
    ((oM : Memref sig .tc .vmem S256x2048 .f32).access (Rect.unit (s := S256x2048) ![0, 0] S256x2048.size inb_S256x2048_S256x2048_0_0) : View sig .tc _ _ _).write (Elt F) f w Finset.univ = w :=
  Memref.write_access_unit_zero_univ (Elt F) cc0_stg2_0 hz _ f w

set_option maxHeartbeats 4000000 in
/-- The body, run one step per effect in program order. -/
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_scratch0) (Memref.isWhole_whole _)
            (Memref.whole cc0_scratch1) (Memref.isWhole_whole _) cc0_scratch2 cc0_scratch3) Kt := by
  simp only [cc0_body_eq_skeleton]; unfold cc0_body_skel
  simp only [k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton, k0_part10_eq_skeleton, k0_part11_eq_skeleton, k0_part12_eq_skeleton]
  unfold k0_part1_skel k0_part2_skel k0_part3_skel k0_part4_skel k0_part5_skel k0_part6_skel
    k0_part7_skel k0_part8_skel k0_part9_skel k0_part10_skel k0_part11_skel k0_part12_skel
  simp only [semSignalWord, semWaitWord, Prog.lift, Prog.bind_op, Prog.bind_ret, Prog.pure_eq_ret, wp_deviceId]
  unfold bodyPre ghost credits scratch
  iintro ⟨⟨⟨⟨#Hrec, Hat, Htb, Hts, Htr⟩, ⟨HcB, Hcr⟩, #Hlev, ⟨%f0, Hst⟩, ⟨%f1, Hxa⟩⟩, Ho, ⟨%d0, %g0, %hg0, Hx⟩, ⟨%d1, %g1, %hg1, Hw⟩, ⟨%d2, %g2, %hg2, Hout⟩⟩, Hk⟩
  have hx : g0 = xstg m ρ c := by rw [hg0]; unfold Dat.before; rw [if_pos (fetch0_0 t₀)]; rfl
  have hw : g1 = wstg m ρ c := by rw [hg1]; unfold Dat.before; rw [if_pos (fetch0_1 t₀)]; rfl
  subst hx hw
  -- the cells, the landing buffer by slot, the debt
  ihave Hat := (Entails.of_eq (bigSep_cells fun k : CK => (atPos ER (kcell (c, k)) 0 ∅ 0 : sProp 𝕄))) $$ Hat
  icases Hat with ⟨HatB, HatS, HatV⟩
  ihave HatS := (Entails.of_eq (bigSep_zero fun j => (atPos ER (kcell (c, some (false, j))) 0 ∅ 0 : sProp 𝕄))) $$ HatS
  icases HatS with ⟨HatS0, HatS⟩
  ihave HatV := (Entails.of_eq (bigSep_own c fun e => (atPos ER (kcell (c, some (true, e))) 0 ∅ 0 : sProp 𝕄))) $$ HatV
  icases HatV with ⟨HatV0, HatV⟩
  ihave Hxa := (xa_own c f1) $$ Hxa
  icases Hxa with ⟨Hxa0, Hxa⟩
  ihave Ho := (owesAt_debt m ρ c) $$ Ho
  ihave Hs := (sigRes_intro c f1) $$ [Hxa Htb]
  · isplitl [Hxa] <;> iassumption
  ihave Hx := (show (((c : Thread nD τ).loc cc0_stg0_0) ↦{fullShare} xstg m ρ c : sProp 𝕄) ⊢ xPts m ρ c from Entails.refl _) $$ Hx
  ihave Hw := (show (((c : Thread nD τ).loc cc0_stg1_0) ↦{fullShare} wstg m ρ c : sProp 𝕄) ⊢ wPts m ρ c from Entails.refl _) $$ Hw
  ihave Hst := (staged_none m ρ c f0) $$ Hst
  -- the barrier: seven signals and the wait
  iapply (step_signal_at m ρ K c _ 1 0 1 rfl rfl (sig1_eq c) (by decide)) $$ [Ho Hs]
  · isplitr; · iexact Hrec
    isplitl [Ho] <;> iassumption
  iintro ⟨Ho, Hs⟩
  iapply (step_signal_at m ρ K c _ 2 1 2 rfl rfl (sig2_eq c) (by decide)) $$ [Ho Hs]
  · isplitr; · iexact Hrec
    isplitl [Ho] <;> iassumption
  iintro ⟨Ho, Hs⟩
  iapply (step_signal_at m ρ K c _ 3 2 3 rfl rfl (sig3_eq c) (by decide)) $$ [Ho Hs]
  · isplitr; · iexact Hrec
    isplitl [Ho] <;> iassumption
  iintro ⟨Ho, Hs⟩
  iapply (step_signal_at m ρ K c _ 4 3 4 rfl rfl (sig4_eq c) (by decide)) $$ [Ho Hs]
  · isplitr; · iexact Hrec
    isplitl [Ho] <;> iassumption
  iintro ⟨Ho, Hs⟩
  iapply (step_signal_at m ρ K c _ 5 4 5 rfl rfl (sig5_eq c) (by decide)) $$ [Ho Hs]
  · isplitr; · iexact Hrec
    isplitl [Ho] <;> iassumption
  iintro ⟨Ho, Hs⟩
  iapply (step_signal_at m ρ K c _ 6 5 6 rfl rfl (sig6_eq c) (by decide)) $$ [Ho Hs]
  · isplitr; · iexact Hrec
    isplitl [Ho] <;> iassumption
  iintro ⟨Ho, Hs⟩
  iapply (step_signal_at m ρ K c _ 7 6 7 rfl rfl (sig7_eq c) (by decide)) $$ [Ho Hs]
  · isplitr; · iexact Hrec
    isplitl [Ho] <;> iassumption
  iintro ⟨Ho, Hs⟩
  ihave Ho := (debt_sent c) $$ Ho
  iapply (step_barrier m ρ K c) $$ [Ho HcB HatB]
  · isplitr; · iexact Hrec
    isplitr; · iexact Hlev
    isplitl [Ho]; · iexact Ho
    isplitl [HcB] <;> iassumption
  iintro ⟨Ho, HatB, Hland⟩
  -- the staging of the eight blocks
  iapply (step_stage m ρ c 0 0 1 rfl rfl rfl rfl pay_stage0) $$ [Hx Hst]
  · isplitl [Hx] <;> iassumption
  iintro ⟨Hx, Hst⟩
  iapply (step_stage m ρ c 1 1 2 rfl rfl rfl rfl pay_stage1) $$ [Hx Hst]
  · isplitl [Hx] <;> iassumption
  iintro ⟨Hx, Hst⟩
  iapply (step_stage m ρ c 2 2 3 rfl rfl rfl rfl pay_stage2) $$ [Hx Hst]
  · isplitl [Hx] <;> iassumption
  iintro ⟨Hx, Hst⟩
  iapply (step_stage m ρ c 3 3 4 rfl rfl rfl rfl pay_stage3) $$ [Hx Hst]
  · isplitl [Hx] <;> iassumption
  iintro ⟨Hx, Hst⟩
  iapply (step_stage m ρ c 4 4 5 rfl rfl rfl rfl pay_stage4) $$ [Hx Hst]
  · isplitl [Hx] <;> iassumption
  iintro ⟨Hx, Hst⟩
  iapply (step_stage m ρ c 5 5 6 rfl rfl rfl rfl pay_stage5) $$ [Hx Hst]
  · isplitl [Hx] <;> iassumption
  iintro ⟨Hx, Hst⟩
  iapply (step_stage m ρ c 6 6 7 rfl rfl rfl rfl pay_stage6) $$ [Hx Hst]
  · isplitl [Hx] <;> iassumption
  iintro ⟨Hx, Hst⟩
  iapply (step_stage m ρ c 7 7 8 rfl rfl rfl rfl pay_stage7) $$ [Hx Hst]
  · isplitl [Hx] <;> iassumption
  iintro ⟨Hx, Hst⟩
  ihave Hst := (staged_all m ρ c) $$ Hst
  ihave Hst := (Entails.of_eq (bigSep_own c fun e => stPts c e (stageV m ρ c))) $$ Hst
  icases Hst with ⟨Hst0, Hst⟩
  ihave Hs := (sendRes_intro m ρ c) $$ [Hst Hland Hts Htr]
  · isplitl [Hst]; · iexact Hst
    isplitl [Hland]; · iexact Hland
    isplitl [Hts] <;> iassumption
  ihave Hd := (none_took (sendCred c)) $$ []
  · iempintro
  ihave Ho := (debt_start c) $$ Ho
  -- the seven transfers
  iapply (step_send m ρ K c _ 1 (snd1_eq c) (by decide) (left 0) (left 1) (took 0) (took 1) (by decide) (by decide) (off3_eq c 0) (k0_off2_eq c) (sem_send 1 _ rfl _ _) (sem_recv c _ (k0_off1_eq c) _ _)) $$ [Ho Hs Hd]
  · isplitr; · iexact Hrec
    isplitl [Ho]; · iexact Ho
    isplitl [Hs] <;> iassumption
  iintro ⟨Ho, Hs, Hd⟩
  iapply (step_send m ρ K c _ 2 (snd2_eq c) (by decide) (left 1) (left 2) (took 1) (took 2) (by decide) (by decide) (off3_eq c 1) (k0_off2_eq c) (sem_send 2 _ rfl _ _) (sem_recv c _ (k0_off1_eq c) _ _)) $$ [Ho Hs Hd]
  · isplitr; · iexact Hrec
    isplitl [Ho]; · iexact Ho
    isplitl [Hs] <;> iassumption
  iintro ⟨Ho, Hs, Hd⟩
  iapply (step_send m ρ K c _ 4 (snd4_eq c) (by decide) (left 2) (left 3) (took 2) (took 3) (by decide) (by decide) (off3_eq c 3) (k0_off2_eq c) (sem_send 4 _ rfl _ _) (sem_recv c _ (k0_off1_eq c) _ _)) $$ [Ho Hs Hd]
  · isplitr; · iexact Hrec
    isplitl [Ho]; · iexact Ho
    isplitl [Hs] <;> iassumption
  iintro ⟨Ho, Hs, Hd⟩
  iapply (step_send m ρ K c _ 3 (snd3_eq c) (by decide) (left 3) (left 4) (took 3) (took 4) (by decide) (by decide) (off3_eq c 2) (k0_off2_eq c) (sem_send 3 _ rfl _ _) (sem_recv c _ (k0_off1_eq c) _ _)) $$ [Ho Hs Hd]
  · isplitr; · iexact Hrec
    isplitl [Ho]; · iexact Ho
    isplitl [Hs] <;> iassumption
  iintro ⟨Ho, Hs, Hd⟩
  iapply (step_send m ρ K c _ 5 (snd5_eq c) (by decide) (left 4) (left 5) (took 4) (took 5) (by decide) (by decide) (off3_eq c 4) (k0_off2_eq c) (sem_send 5 _ rfl _ _) (sem_recv c _ (k0_off1_eq c) _ _)) $$ [Ho Hs Hd]
  · isplitr; · iexact Hrec
    isplitl [Ho]; · iexact Ho
    isplitl [Hs] <;> iassumption
  iintro ⟨Ho, Hs, Hd⟩
  iapply (step_send m ρ K c _ 6 (snd6_eq c) (by decide) (left 5) (left 6) (took 5) (took 6) (by decide) (by decide) (off3_eq c 5) (k0_off2_eq c) (sem_send 6 _ rfl _ _) (sem_recv c _ (k0_off1_eq c) _ _)) $$ [Ho Hs Hd]
  · isplitr; · iexact Hrec
    isplitl [Ho]; · iexact Ho
    isplitl [Hs] <;> iassumption
  iintro ⟨Ho, Hs, Hd⟩
  iapply (step_send m ρ K c _ 7 (snd7_eq c) (by decide) (left 6) (left 7) (took 6) (took 7) (by decide) (by decide) (off3_eq c 6) (k0_off2_eq c) (sem_send 7 _ rfl _ _) (sem_recv c _ (k0_off1_eq c) _ _)) $$ [Ho Hs Hd]
  · isplitr; · iexact Hrec
    isplitl [Ho]; · iexact Ho
    isplitl [Hs] <;> iassumption
  iintro ⟨Ho, Hs, Hd⟩
  ihave Ho := (debt_paid c) $$ Ho
  -- the products' operands: its own block, then each landed one
  iapply (step_own m ρ c (k0_off4_eq c) (k0_off5_eq c)) $$ [Hst0 Hw]
  · isplitl [Hst0] <;> iassumption
  iintro ⟨Hst0, Hw⟩
  ihave Hr := (recvRes_intro c) $$ [Hcr HatV]
  · isplitl [Hcr] <;> iassumption
  ihave Hv := (none_took (recvDone m ρ c)) $$ []
  · iempintro
  iapply (step_recv m ρ K c 1 (by decide) (left 0) (left 1) (took 0) (took 1) (by decide) (by decide) (sem_recv (par c 1) _ (off6_eq c 0) _ _) (off7_eq c 0) (off8_eq c 0)) $$ [Ho Hw Hr Hv]
  · isplitr; · iexact Hrec
    isplitl [Ho]; · iexact Ho
    isplitl [Hw]; · iexact Hw
    isplitl [Hr] <;> iassumption
  iintro ⟨Ho, Hw, Hr, Hv⟩
  iapply (step_recv m ρ K c 2 (by decide) (left 1) (left 2) (took 1) (took 2) (by decide) (by decide) (sem_recv (par c 2) _ (off6_eq c 1) _ _) (off7_eq c 1) (off8_eq c 1)) $$ [Ho Hw Hr Hv]
  · isplitr; · iexact Hrec
    isplitl [Ho]; · iexact Ho
    isplitl [Hw]; · iexact Hw
    isplitl [Hr] <;> iassumption
  iintro ⟨Ho, Hw, Hr, Hv⟩
  iapply (step_recv m ρ K c 4 (by decide) (left 2) (left 3) (took 2) (took 3) (by decide) (by decide) (sem_recv (par c 4) _ (off6_eq c 3) _ _) (off7_eq c 3) (off8_eq c 3)) $$ [Ho Hw Hr Hv]
  · isplitr; · iexact Hrec
    isplitl [Ho]; · iexact Ho
    isplitl [Hw]; · iexact Hw
    isplitl [Hr] <;> iassumption
  iintro ⟨Ho, Hw, Hr, Hv⟩
  iapply (step_recv m ρ K c 3 (by decide) (left 3) (left 4) (took 3) (took 4) (by decide) (by decide) (sem_recv (par c 3) _ (off6_eq c 2) _ _) (off7_eq c 2) (off8_eq c 2)) $$ [Ho Hw Hr Hv]
  · isplitr; · iexact Hrec
    isplitl [Ho]; · iexact Ho
    isplitl [Hw]; · iexact Hw
    isplitl [Hr] <;> iassumption
  iintro ⟨Ho, Hw, Hr, Hv⟩
  iapply (step_recv m ρ K c 5 (by decide) (left 4) (left 5) (took 4) (took 5) (by decide) (by decide) (sem_recv (par c 5) _ (off6_eq c 4) _ _) (off7_eq c 4) (off8_eq c 4)) $$ [Ho Hw Hr Hv]
  · isplitr; · iexact Hrec
    isplitl [Ho]; · iexact Ho
    isplitl [Hw]; · iexact Hw
    isplitl [Hr] <;> iassumption
  iintro ⟨Ho, Hw, Hr, Hv⟩
  iapply (step_recv m ρ K c 6 (by decide) (left 5) (left 6) (took 5) (took 6) (by decide) (by decide) (sem_recv (par c 6) _ (off6_eq c 5) _ _) (off7_eq c 5) (off8_eq c 5)) $$ [Ho Hw Hr Hv]
  · isplitr; · iexact Hrec
    isplitl [Ho]; · iexact Ho
    isplitl [Hw]; · iexact Hw
    isplitl [Hr] <;> iassumption
  iintro ⟨Ho, Hw, Hr, Hv⟩
  iapply (step_recv m ρ K c 7 (by decide) (left 6) (left 7) (took 6) (took 7) (by decide) (by decide) (sem_recv (par c 7) _ (off6_eq c 6) _ _) (off7_eq c 6) (off8_eq c 6)) $$ [Ho Hw Hr Hv]
  · isplitr; · iexact Hrec
    isplitl [Ho]; · iexact Ho
    isplitl [Hw]; · iexact Hw
    isplitl [Hr] <;> iassumption
  iintro ⟨Ho, Hw, Hr, Hv⟩
  -- the output block
  iapply (wp_load 𝒱₀ (c : Thread nD τ) none Set.univ (m := oM) (Finset.subset_univ _)) $$ Hout; iintro Hout
  iapply (wp_store 𝒱₀ (c : Thread nD τ) none Set.univ (m := oM) (r := Rect.unit (s := S256x2048) ![0, 0] S256x2048.size inb_S256x2048_S256x2048_0_0) (Mk := Finset.univ) (Finset.subset_univ _)) $$ Hout; iintro Hout
  rw [write_out]
  -- the send waits
  ihave Hb := (backRes_intro c) $$ [Hd HatS]
  · isplitl [Hd] <;> iassumption
  ihave Hd := (none_took (backDone m ρ c)) $$ []
  · iempintro
  iapply (step_back m ρ K c 1 (by decide) (left 0) (left 1) (took 0) (took 1) (by decide) (by decide) (sem_send 1 _ rfl _ _)) $$ [Ho Hb Hd]
  · isplitr; · iexact Hrec
    isplitl [Ho]; · iexact Ho
    isplitl [Hb] <;> iassumption
  iintro ⟨Ho, Hb, Hd⟩
  iapply (step_back m ρ K c 2 (by decide) (left 1) (left 2) (took 1) (took 2) (by decide) (by decide) (sem_send 2 _ rfl _ _)) $$ [Ho Hb Hd]
  · isplitr; · iexact Hrec
    isplitl [Ho]; · iexact Ho
    isplitl [Hb] <;> iassumption
  iintro ⟨Ho, Hb, Hd⟩
  iapply (step_back m ρ K c 4 (by decide) (left 2) (left 3) (took 2) (took 3) (by decide) (by decide) (sem_send 4 _ rfl _ _)) $$ [Ho Hb Hd]
  · isplitr; · iexact Hrec
    isplitl [Ho]; · iexact Ho
    isplitl [Hb] <;> iassumption
  iintro ⟨Ho, Hb, Hd⟩
  iapply (step_back m ρ K c 3 (by decide) (left 3) (left 4) (took 3) (took 4) (by decide) (by decide) (sem_send 3 _ rfl _ _)) $$ [Ho Hb Hd]
  · isplitr; · iexact Hrec
    isplitl [Ho]; · iexact Ho
    isplitl [Hb] <;> iassumption
  iintro ⟨Ho, Hb, Hd⟩
  iapply (step_back m ρ K c 5 (by decide) (left 4) (left 5) (took 4) (took 5) (by decide) (by decide) (sem_send 5 _ rfl _ _)) $$ [Ho Hb Hd]
  · isplitr; · iexact Hrec
    isplitl [Ho]; · iexact Ho
    isplitl [Hb] <;> iassumption
  iintro ⟨Ho, Hb, Hd⟩
  iapply (step_back m ρ K c 6 (by decide) (left 5) (left 6) (took 5) (took 6) (by decide) (by decide) (sem_send 6 _ rfl _ _)) $$ [Ho Hb Hd]
  · isplitr; · iexact Hrec
    isplitl [Ho]; · iexact Ho
    isplitl [Hb] <;> iassumption
  iintro ⟨Ho, Hb, Hd⟩
  iapply (step_back m ρ K c 7 (by decide) (left 6) (left 7) (took 6) (took 7) (by decide) (by decide) (sem_send 7 _ rfl _ _)) $$ [Ho Hb Hd]
  · isplitr; · iexact Hrec
    isplitl [Ho]; · iexact Ho
    isplitl [Hb] <;> iassumption
  iintro ⟨Ho, Hb, Hd⟩
  -- every cell closes, the buffers are whole again
  ihave Hd := (backDone_all m ρ c) $$ Hd
  icases Hd with ⟨Hst, HatS⟩
  ihave Hv := (recvDone_all m ρ c) $$ Hv
  icases Hv with ⟨Hxa, HatV⟩
  imod (close_all m ρ K c) $$ [HatB HatS0 HatS HatV0 HatV] with ⟨HzB, Hz⟩
  · isplitr; · iexact Hrec
    isplitl [HatB]; · iexact HatB
    isplitl [HatS0]; · iexact HatS0
    isplitl [HatS]; · iexact HatS
    isplitl [HatV0] <;> iassumption
  rw [wp_ret]; imodintro
  iapply Hk
  unfold bodyPost Φ₁
  isplitl [Hst0 Hst Hxa0 Hxa HzB Hz]
  · isplitl [Hst0 Hst Hxa0 Hxa]
    · iapply (scratch_back m ρ c f1)
      isplitl [Hst0]; · iexact Hst0
      isplitl [Hst]; · iexact Hst
      isplitl [Hxa0] <;> iassumption
    isplitl [Hz] <;> iassumption
  isplitl [Ho]; · iapply (debt_owesAt m ρ c); iexact Ho
  isplitl [Hx]
  · iexists _; isplitr; · (ipureintro; rfl)
    unfold xPts; iexact Hx
  isplitl [Hw]
  · iexists _; isplitr; · (ipureintro; rfl)
    unfold wPts; iexact Hw
  iexists _; isplitr; · (ipureintro; rfl)
  iexact Hout

end Body

end Cert.KernelIdealProof

end
-- ==== Proof.KernelIdealRun.lean ====
/-
The all-to-all kernel's launch: the cells and tokens dealt to the eight devices, the launch credits counted, and the run of
@main, which terminates with the arrays at their computed contents and every semaphore at zero.
-/
module

public import proofs.«01_k».proof.Proof.KernelIdealBody
public import proofs.«01_k».proof.Proof.Gen.KernelIdeal.Launch
public import Idealize.ShloMosaic.Lib.Pipeline.CollectiveSegs

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The body obligation -/

/-- The grid's one point, as the library asks for it. -/
theorem body_obligation (c : Dev nD) : BodyObligation (dats (F := F) m ρ 0 c) (defs₀ (F := F)) 𝒱₀ () Set.univ := fun t => by
  rw [fin_N0 t, bigSep_W0, bigSep_W0]
  simp only [owns_whole_eq]
  show iprop(Φ₀ m ρ c ∗ (dats m ρ 0 c).owesAt () t₀.castSucc
      ∗ (∃ d, stg c cc0_stg0_0 ((dats m ρ 0 c).before (0 : Fin 3) t₀ d))
      ∗ (∃ d, stg c cc0_stg1_0 ((dats m ρ 0 c).before (1 : Fin 3) t₀ d))
      ∗ (∃ d, stg c cc0_stg2_0 ((dats m ρ 0 c).before (2 : Fin 3) t₀ d)))
    ⊢ wp frame (wpE (defs₀ (F := F)) 𝒱₀ c none) Set.univ
      (cc0_body (Memref.whole cc0_stg0_0) (Memref.isWhole_whole _) (Memref.whole cc0_stg1_0) (Memref.isWhole_whole _)
        (Memref.whole cc0_stg2_0) (Memref.isWhole_whole _) (Memref.whole cc0_scratch0) (Memref.isWhole_whole _)
        (Memref.whole cc0_scratch1) (Memref.isWhole_whole _) cc0_scratch2 cc0_scratch3) (fun _ => bodyPost m ρ c)
  unfold Φ₀ start
  iintro ⟨⟨⟨⟨%K, Hg⟩, Hcr, Hlev⟩, Hscr⟩, Ho, Hwin⟩
  iapply (sound_body m ρ K c fun _ => bodyPost m ρ c)
  unfold bodyPre
  isplitl
  · isplitl [Hg Hcr Hlev Hscr]
    · isplitl [Hg]; · iexact Hg
      isplitl [Hcr]; · iexact Hcr
      isplitl [Hlev] <;> iassumption
    isplitl [Ho] <;> iassumption
  · iintro H; iexact H

/-! ## The launch element -/

/-- The kernel's own semaphores are the send and receive ones, each once. -/
theorem ownSemFacts : Pipeline.OwnSemFacts cfg0.spec osem := by decide

/-- Every window is held whole. -/
theorem share_eq (c : Dev nD) (w : Fin cfg0.W) : (dats m ρ 0 c).share w = fullShare := by unfold Dat.share; split <;> rfl

/-- Every cell of every device. -/
def allCells : Finset (GSem nD τ sig) := Finset.univ.map ⟨kcell, kcell_injective⟩

/-- A token of round 0 of every cell for every duty name (only those of the schedule are ever spent). -/
abbrev tokOf (x : (Dev nD × CK) × Dev nD) : GSem nD τ sig × ℕ × Dev nD := (kcell x.1, 0, x.2)
/-- Different duties have different tokens. -/
theorem tokOf_injective : Function.Injective tokOf := fun x y h =>
  Prod.ext (kcell_injective (congrArg Prod.fst h)) (congrArg (fun z : GSem nD τ sig × ℕ × Dev nD => z.2.2) h)
/-- The tokens of all duties. -/
def allToks : Finset (GSem nD τ sig × ℕ × Dev nD) := Finset.univ.map ⟨tokOf, tokOf_injective⟩

/-- The ghost state the launch allocates. -/
def u₀ : UU :=
  (initOf (Pipeline.cells cfgs cellOf_inj) (Pipeline.launchToks cfgs cellOf_inj), initOf allCells allToks)

/-- A device's cells as the launch element deals them: round 0's state, the position, the record of round 0, all tokens. -/
def G (c : Dev nD) : sProp 𝕄 :=
  iprop((bigSep Finset.univ fun k : CK => roundState ER (xRd m ρ) (kcell (c, k)) 0)
    ∗ (bigSep Finset.univ fun k : CK => reached ER (kcell (c, k)) 0)
    ∗ (bigSep Finset.univ fun k : CK => atPos ER (kcell (c, k)) 0 ∅ 0)
    ∗ bigSep Finset.univ fun k : CK => bigSep Finset.univ fun d : Dev nD => dutyTok ER (kcell (c, k)) 0 d)

/-- What a device starts its body with once the cells' invariants stand. -/
def G' (c : Dev nD) : sProp 𝕄 := iprop(∃ K, ghost m ρ K c)

omit [FloatOps F] in
theorem all_cells (Φ : GSem nD τ sig → sProp 𝕄) :
    bigSep allCells Φ = bigSep Finset.univ fun c : Dev nD => bigSep Finset.univ fun k : CK => Φ (kcell (c, k)) := by
  unfold allCells; rw [bigSep_map, bigSep_univ_prod]; rfl
omit [FloatOps F] in
theorem all_toks (Φ : GSem nD τ sig × ℕ × Dev nD → sProp 𝕄) :
    bigSep allToks Φ = bigSep Finset.univ fun c : Dev nD => bigSep Finset.univ fun k : CK => bigSep Finset.univ fun d : Dev nD => Φ (kcell (c, k), 0, d) := by
  unfold allToks; rw [bigSep_map, bigSep_univ_prod, bigSep_univ_prod]; rfl

omit [FloatOps F] in
theorem fund_cells : BI.own (ER (initOf allCells allToks)) ⊢ (|==> bigSep Finset.univ (G m ρ) : sProp 𝕄) := by
  iintro HX
  imod (Rounds.fund ER (xRd m ρ) allCells allToks) $$ HX with ⟨Hst, Hr, Hat, Htok⟩
  imodintro
  ihave Hst := (Entails.of_eq (all_cells fun g => roundState ER (xRd m ρ) g 0)) $$ Hst
  ihave Hr := (Entails.of_eq (all_cells (F := F) fun g => reached ER g 0)) $$ Hr
  ihave Hat := (Entails.of_eq (all_cells (F := F) fun g => atPos ER g 0 ∅ 0)) $$ Hat
  ihave Htok := (Entails.of_eq (all_toks (F := F) fun x => dutyTok ER x.1 x.2.1 x.2.2)) $$ Htok
  unfold G; simp only [bigSep_sep']
  isplitl [Hst]; · iexact Hst
  isplitl [Hr]; · iexact Hr
  isplitl [Hat] <;> iassumption

/-! ## The counters at launch -/

omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- A device's counters, all at zero, cell by cell. -/
theorem sems0 (c : Dev nD) :
    iprop(Pipeline.ownSems0 (Ix := Unit) (Name := ℕ) (U := UU) (Lvl := ℕ) (Val := Elt F) (τ := τ) osem c ∗ unscopedSems0 c)
      ⊢ (bigSep Finset.univ fun k : CK => semVal (kcell (c, k)) 0 : sProp 𝕄) := by
  unfold Pipeline.ownSems0
  rw [unscopedSems0_eq, bigSep_cells, bigSep_univ_prod, bigSep_bool]
  iintro ⟨HO, HB⟩
  isplitl [HB]; · iexact HB
  iexact HO

omit [FloatOps F] in
/-- One device's cells get their invariants. -/
theorem cells_open (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : CK => iprop(∃ κ : ℕ, cellInv ER (xRd m ρ) κ (kcell (c, k))))
          ∗ (bigSep Finset.univ fun k : CK => reached ER (kcell (c, k)) 0)
          ∗ (bigSep Finset.univ fun k : CK => atPos ER (kcell (c, k)) 0 ∅ 0)
          ∗ bigSep Finset.univ fun k : CK => bigSep Finset.univ fun d : Dev nD => dutyTok ER (kcell (c, k)) 0 d) := by
  have h : iprop((bigSep Finset.univ fun k : CK => semVal (kcell (c, k)) 0) ∗ bigSep Finset.univ fun k : CK => roundState ER (xRd m ρ) (kcell (c, k)) 0)
      ⊢ (|={Set.univ}=> bigSep Finset.univ fun k : CK => iprop(∃ κ : ℕ, cellInv ER (xRd m ρ) κ (kcell (c, k))) : sProp 𝕄) := by
    rw [← bigSep_sep']
    exact (bigSep_mono fun k _ => (Rounds.body_intro ER (xRd m ρ) (kcell (c, k))).trans inv_alloc).trans (bigSep_fupd _ _)
  unfold G
  iintro ⟨Hos, Hus, Hst, Hrest⟩
  ihave Hv := (sems0 (F := F) c) $$ [Hos Hus]
  · isplitl [Hos] <;> iassumption
  imod h $$ [Hv Hst] with Hinv
  · isplitl [Hv] <;> iassumption
  imodintro
  isplitl [Hinv] <;> iassumption

/-! ## The tokens dealt -/

/-- The tokens of the duties device `c` pays: its signal to every other barrier, its own send cells, the receive cell
    each partner keeps for it. -/
def payToks (c : Dev nD) : sProp 𝕄 :=
  iprop((bigSep (others c) fun d => dutyTok ER (barCell d) 0 c)
    ∗ (bigSep masks fun r => dutyTok ER (sendCell c r) 0 0)
    ∗ bigSep masks fun r => dutyTok ER (recvCell (par c r) c) 0 0)

omit [FloatOps F] in
/-- From all tokens by their cell's device, to the tokens by the device that pays. -/
theorem toks_dealt :
    (bigSep Finset.univ fun c : Dev nD => bigSep Finset.univ fun k : CK => bigSep Finset.univ fun d : Dev nD => dutyTok ER (kcell (c, k)) 0 d)
      ⊢ (bigSep Finset.univ fun c : Dev nD => payToks (F := F) c : sProp 𝕄) := by
  have hB : (bigSep Finset.univ fun c : Dev nD => bigSep Finset.univ fun d : Dev nD => dutyTok ER (barCell c) 0 d)
      ⊢ (bigSep Finset.univ fun c : Dev nD => bigSep (others c) fun d => dutyTok ER (barCell d) 0 c : sProp 𝕄) := by
    rw [bigSep_univ_comm]
    exact bigSep_mono fun c _ => bigSep_subset (Finset.subset_univ _)
  have hS : (bigSep Finset.univ fun c : Dev nD => bigSep Finset.univ fun j : Fin 8 => bigSep Finset.univ fun d : Dev nD => dutyTok ER (sendCell c j) 0 d)
      ⊢ (bigSep Finset.univ fun c : Dev nD => bigSep masks fun r => dutyTok ER (sendCell c r) 0 0 : sProp 𝕄) :=
    bigSep_mono fun c _ => (bigSep_subset (Finset.subset_univ _)).trans (bigSep_mono fun j _ => bigSep_elim (Finset.mem_univ 0))
  have hV : (bigSep Finset.univ fun c : Dev nD => bigSep Finset.univ fun e : Fin 8 => bigSep Finset.univ fun d : Dev nD => dutyTok ER (recvCell c e) 0 d)
      ⊢ (bigSep Finset.univ fun c : Dev nD => bigSep masks fun r => dutyTok ER (recvCell (par c r) c) 0 0 : sProp 𝕄) := by
    rw [bigSep_univ_comm (α := Dev nD) (β := Fin 8) fun c e => bigSep Finset.univ fun d : Dev nD => (dutyTok ER (recvCell c e) 0 d : sProp 𝕄)]
    exact bigSep_mono fun e _ => ((bigSep_mono fun c _ => bigSep_elim (Finset.mem_univ 0)).trans (bigSep_subset (Finset.subset_univ (others e)))).trans
      (Entails.of_eq (bigSep_par e fun c => (dutyTok ER (recvCell c e) 0 0 : sProp 𝕄)))
  unfold payToks
  simp only [bigSep_cells, bigSep_sep']
  iintro ⟨H1, H2, H3⟩
  isplitl [H1]; · iapply hB; iexact H1
  isplitl [H2]; · iapply hS; iexact H2
  iapply hV; iexact H3

omit [FloatOps F] in
theorem ghost_intro (K : Dev nD × CK → ℕ) (c : Dev nD) :
    iprop(records m ρ K ∗ (bigSep Finset.univ fun k : CK => atPos ER (kcell (c, k)) 0 ∅ 0) ∗ payToks c) ⊢ G' (F := F) m ρ c := by
  unfold G' ghost payToks
  iintro H
  iexists K; iexact H

omit [FloatOps F] in
theorem regroup :
    (bigSep Finset.univ fun c : Dev nD => iprop((bigSep Finset.univ fun k : CK => iprop(∃ κ : ℕ, cellInv ER (xRd m ρ) κ (kcell (c, k))))
          ∗ (bigSep Finset.univ fun k : CK => reached ER (kcell (c, k)) 0)
          ∗ (bigSep Finset.univ fun k : CK => atPos ER (kcell (c, k)) 0 ∅ 0)
          ∗ bigSep Finset.univ fun k : CK => bigSep Finset.univ fun d : Dev nD => dutyTok ER (kcell (c, k)) 0 d) : sProp 𝕄)
      ⊢ bigSep Finset.univ (G' m ρ) := by
  rw [bigSep_sep', bigSep_sep', bigSep_sep', ← bigSep_univ_prod (fun ck : Dev nD × CK => iprop(∃ κ : ℕ, cellInv ER (xRd m ρ) κ (kcell ck))),
    ← bigSep_univ_prod (fun ck : Dev nD × CK => (reached ER (kcell ck) 0 : sProp 𝕄))]
  have hG (K : Dev nD × CK → ℕ) : iprop(records m ρ K ∗ bigSep Finset.univ fun c : Dev nD => iprop((bigSep Finset.univ fun k : CK => atPos ER (kcell (c, k)) 0 ∅ 0) ∗ payToks c))
      ⊢ (bigSep Finset.univ (G' (F := F) m ρ) : sProp 𝕄) := bigSep_with_persistent fun c _ => ghost_intro m ρ K c
  iintro ⟨HI, #HR, Hat, Htok⟩
  ihave HK := (BI.bigSep_exists_pi Finset.univ (fun (ck : Dev nD × CK) (κ : ℕ) => (cellInv ER (xRd m ρ) κ (kcell ck) : sProp 𝕄))) $$ HI
  icases HK with ⟨%K, #HI⟩
  ihave Htok := (toks_dealt (F := F)) $$ Htok
  iapply (hG K)
  isplitr
  · unfold records; isplitl; · iexact HI
    iexact HR
  rw [bigSep_sep']
  isplitl [Hat] <;> iassumption

omit [FloatOps F] in
/-- All devices' cells open and their pieces dealt. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => cells_open m ρ c).trans (bigSep_fupd _ _)).trans (BI.fupd_mono (regroup m ρ))

/-! ## The launch credit -/

/-- Barrier cells are equal when their devices are. -/
theorem bar_eq_iff {a b : Dev nD} : barCell a = barCell b ↔ a = b :=
  ⟨fun h => congrArg Prod.fst (kcell_injective (a₁ := (a, none)) (a₂ := (b, none)) h), fun h => h ▸ rfl⟩
/-- Receive cells are equal when device and sender are. -/
theorem recv_eq_iff {a b : Dev nD} {i j : Fin 8} : recvCell a i = recvCell b j ↔ a = b ∧ i = j :=
  ⟨fun h => by
    have h' := kcell_injective (a₁ := (a, some (true, i))) (a₂ := (b, some (true, j))) h
    simpa using h', fun h => h.1 ▸ h.2 ▸ rfl⟩
/-- A receive cell is no barrier cell. -/
theorem recv_ne_bar (a b : Dev nD) (i : Fin 8) : recvCell a i ≠ barCell b := fun h =>
  absurd (congrArg Prod.snd (kcell_injective (a₁ := (a, some (true, i))) (a₂ := (b, none)) h)) (by simp)

/-- What device `d` owes on a barrier cell. -/
theorem owed_bar (d c : Dev nD) : O₀ d (barCell c) () = ∑ e ∈ others d, if c = e then 1 else 0 := by
  unfold O₀ sendO sigO
  rw [Pi.add_apply, Finsupp.add_apply, tallies_sum_apply, tallies_sum_apply]
  rw [Finset.sum_eq_zero fun r _ => by rw [tallyAt_ne_cell (recv_ne_bar _ _ _).symm]; rfl, Nat.zero_add]
  exact Finset.sum_congr rfl fun e _ => by rw [tallyAt_apply]; simp only [bar_eq_iff, and_true]
/-- What device `d` owes on a receive cell. -/
theorem owed_recv (d c : Dev nD) (e : Fin 8) : O₀ d (recvCell c e) () = (∑ r ∈ masks, if c = par d r ∧ e = d then 1 else 0) * N := by
  unfold O₀ sendO sigO
  rw [Pi.add_apply, Finsupp.add_apply, tallies_sum_apply, tallies_sum_apply]
  rw [Finset.sum_eq_zero (s := others d) fun r _ => by rw [tallyAt_ne_cell (recv_ne_bar _ _ _)]; rfl, Nat.add_zero, Finset.sum_mul]
  exact Finset.sum_congr rfl fun r _ => by
    rw [tallyAt_apply]; simp only [recv_eq_iff, and_true, ite_mul, one_mul, zero_mul]

/-- Seven units are owed on each barrier cell. -/
theorem count_bar (c : Dev nD) : (∑ d : Dev nD, ∑ e ∈ others d, if c = e then 1 else 0) = 7 := by revert c; decide +kernel
/-- One slot is owed on each receive cell in use. -/
theorem count_recv (c : Dev nD) (r : Fin 8) (h : r ≠ 0) :
    (∑ d : Dev nD, ∑ q ∈ masks, if c = par d q ∧ par c r = d then 1 else 0) = 1 := by revert c r; decide +kernel

/-- All devices together owe a barrier seven units, -/
theorem launch_bar (c : Dev nD) :
    tallyOn (barCell c) (launchCredit (Pipeline.owing O₀) 0 (barCell c)) = (tallyAt (barCell c) () 7 : CellTallies nD τ sig Unit) := by
  unfold tallyAt; refine congrArg _ (Finsupp.ext fun u => ?_); cases u
  rw [Pipeline.launchCredit_owing, Finsupp.single_eq_same, Finset.sum_congr rfl fun d _ => owed_bar d c, count_bar]
/-- and a receive cell in use one slot's bytes. -/
theorem launch_recv (c : Dev nD) (r : Fin 8) (h : r ≠ 0) :
    tallyOn (recvCell c (par c r)) (launchCredit (Pipeline.owing O₀) 0 (recvCell c (par c r))) = (tallyAt (recvCell c (par c r)) () N : CellTallies nD τ sig Unit) := by
  unfold tallyAt; refine congrArg _ (Finsupp.ext fun u => ?_); cases u
  rw [Pipeline.launchCredit_owing, Finsupp.single_eq_same, Finset.sum_congr rfl fun d _ => owed_recv d c (par c r), ← Finset.sum_mul, count_recv c r h, Nat.one_mul]

omit [FloatOps F] in
theorem creds (c : Dev nD) : (Pipeline.launchCred O₀ c : sProp 𝕄) ⊢ credits c := by
  have h1 : (Pipeline.launchCred O₀ c : sProp 𝕄)
      ⊢ bigSep Finset.univ fun k : CK => cred (tallyOn (kcell (c, k)) (launchCredit (Pipeline.owing O₀) 0 (kcell (c, k)))) := by
    unfold Pipeline.launchCred
    exact (bigSep_subset (Finset.subset_univ (Finset.univ.map ⟨csem, csem_injective⟩))).trans (Entails.of_eq (bigSep_map _))
  have h2 : (bigSep masks fun r => cred (tallyOn (recvCell c (par c r)) (launchCredit (Pipeline.owing O₀) 0 (recvCell c (par c r)))) : sProp 𝕄)
      = bigSep masks fun r => cred (tallyAt (recvCell c (par c r)) () N) :=
    bigSep_congr fun r hr => by rw [launch_recv c r (mem_masks.mp hr)]
  rw [bigSep_cells] at h1
  unfold credits
  rw [← launch_bar, ← h2]
  iintro H
  ihave H := h1 $$ H
  icases H with ⟨HB, -, HV⟩
  isplitl [HB]; · iexact HB
  ihave HV := (Entails.of_eq (bigSep_own c fun e => (cred (tallyOn (kcell (c, some (true, e))) (launchCredit (Pipeline.owing O₀) 0 (kcell (c, some (true, e))))) : sProp 𝕄))) $$ HV
  icases HV with ⟨-, HV⟩
  iexact HV

/-! ## The launch theorem's side conditions -/

omit [FloatOps F] in
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hcr := (creds (F := F) c) $$ Hcr
  imodintro
  unfold start G'
  isplitl
  · isplitl [HG]; · iexact HG
    isplitl [Hcr] <;> iassumption
  · iempintro

/-- What the launch hands a device is what its body is entered with. -/
theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch
  iintro ⟨Hs, -, Hr⟩
  isplitl [Hs] <;> iassumption

/-- What the body leaves closes the launch. -/
theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, unscopedSems0_eq]
  unfold Φ₁ scratch Pipeline.ownSems0
  iintro ⟨Hr, Hz, HzB⟩
  isplitl [HzB]; · iexact HzB
  isplitl [Hz] <;> iassumption

/-- The pipeline's own waits are allowed. -/
theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- The contents of window `w`'s array on device `c` after the run. -/
def finalA (c : Dev nD) (w : Fin cfg0.W) : Buf (Elt F) ((cfg0.win w).arr.view.loc (c : Thread nD τ)) := (dats m ρ 0 c).arrAt w cfg0.N

/-- Every array of every device holds its computed contents. -/
def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- For any float values, from any memory with zero counters: every weakly fair execution of @main on the eight devices
    terminates, and every final state has each device's arrays at the computed contents and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_cells m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The first argument array holds after the run what it held. -/
theorem finalA_x (c : Dev nD) : finalA m ρ c (0 : Fin 3) = (s₀ m ρ).mem (win0_0.arr.view.loc (c : Thread nD τ)) :=
  (dats (F := F) m ρ 0 c).arrAt_in (0 : Fin 3) rfl _
/-- The second argument array holds after the run what it held. -/
theorem finalA_w (c : Dev nD) : finalA m ρ c (1 : Fin 3) = (s₀ m ρ).mem (win0_1.arr.view.loc (c : Thread nD τ)) :=
  (dats (F := F) m ρ 0 c).arrAt_in (1 : Fin 3) rfl _

end Cert.KernelIdealProof

end
-- ==== Proof.KernelIdealValue.lean ====
/-
The value of the all-to-all kernel in exact arithmetic: device `c`'s result is rows `256 c …` of `max (x · w) 0`, the
whole product, of which the kernel sums eight block products in the order the pairing masks give them.
-/
module

public import proofs.«01_k».proof.Proof.KernelIdealRun
public import proofs.«01_k».proof.Proof.Gen.ReferenceIdeal.Run
public import Idealize.ShloMosaic.Lib.Layout
public import Idealize.ShloMosaic.Lib.MatmulPlain
public import Idealize.ShloMosaic.Lib.StackMember
public import Idealize.ShloMosaic.Lib.IdealHost
public import Idealize.ShloMosaic.Lib.ValueLayout

@[expose] public section

noncomputable section

namespace Cert.KernelIdealProof

open Cert.KernelIdeal Cert.KernelIdeal.Gen

open Idealize.ShloMosaic
open Idealize.ShloMosaic.TcCoe
open Idealize.ShloMosaic.ValueIdx
open scoped BigOperators

/-! ## The arrays read whole -/

section Whole

variable {F : FTy → Type} [FloatOps F]
variable (m : (ℓ : Loc nD τ sig) → Buf (Elt F) ℓ) (ρ : Dev nD → PrngReg)

/-- The one block of the first argument is the whole array. -/
theorem xstg_eq (c : Dev nD) : xstg m ρ c = m ((c : Thread nD τ).loc main_arg0) :=
  Memref.read_access_unit_zero (Elt F) main_arg0
    (show (fun a => (win0_0.index (0 : Fin 1)) a * main_arg0.ty.shape.size a) = fun _ => 0 from funext fun a => by fin_cases a <;> decide)
    (fun a => by fin_cases a <;> decide) _

/-- The one block of the second argument is the whole array. -/
theorem wstg_eq (c : Dev nD) : wstg m ρ c = m ((c : Thread nD τ).loc main_arg1) :=
  Memref.read_access_unit_zero (Elt F) main_arg1
    (show (fun a => (win0_1.index (0 : Fin 1)) a * main_arg1.ty.shape.size a) = fun _ => 0 from funext fun a => by fin_cases a <;> decide)
    (fun a => by fin_cases a <;> decide) _

/-- The result array ends holding what the body stored in its one block. -/
theorem finalA_o (c : Dev nD) : finalA m ρ c (2 : Fin 3) = outAt m ρ c := by
  have hr : (win0_2.blk (0 : Fin 1)).view.read (Elt F) (finalA m ρ c (2 : Fin 3)) = outAt m ρ c := by
    unfold finalA
    rw [show cfg0.N = ((0 : Fin 1) : Fin cfg0.N).val + 1 from rfl, (dats m ρ 0 c).arrAt_succ (2 : Fin 3) (0 : Fin 1),
      if_pos (flush0_2 (0 : Fin 1))]
    exact View.read_write_univ _ _
  exact (Memref.read_access_unit_zero (Elt F) main_v1
    (show (fun a => (win0_2.index (0 : Fin 1)) a * main_v1.ty.shape.size a) = fun _ => 0 from funext fun a => by fin_cases a <;> decide)
    (fun a => by fin_cases a <;> decide) _).symm.trans hr

end Whole

/-! ## Sums -/

/-- A sum over 2048 positions, by eight blocks of 256. -/
theorem sum_rowOf {A : Type} [AddCommMonoid A] (f : Fin 2048 → A) : ∑ k, f k = ∑ p : Fin 8, ∑ k : Fin 256, f (rowOf p k) := by
  rw [← Fintype.sum_prod_type' fun p k => f (rowOf p k),
    ← Equiv.sum_comp (finProdFinEquiv : Fin 8 × Fin 256 ≃ Fin (8 * 256))]
  refine Finset.sum_congr rfl fun x _ => congrArg f (Fin.ext ?_)
  show x.2.val + 256 * x.1.val = 256 * x.1.val + x.2.val
  exact Nat.add_comm _ _

/-- Eight terms taken in the kernel's order of the masks sum to the sum over the devices the masks pair `c` with. -/
theorem sum_masks {A : Type} [AddCommMonoid A] (c : Dev nD) (f : Dev nD → A) :
    ((((((f (par c 0) + f (par c 1)) + f (par c 2)) + f (par c 4)) + f (par c 3)) + f (par c 5)) + f (par c 6)) + f (par c 7)
      = ∑ p : Fin 8, f p := by
  have hb : Function.Bijective (par c) := Finite.injective_iff_bijective.mp (par_injective c)
  rw [← hb.sum_comp f, Fin.sum_univ_eight]
  congr 3
  exact add_right_comm _ _ _

/-! ## The kernel's value -/

/-- One block product, read at an element. -/
theorem prod_apply (A : Vec Ideal S1x256x256 .bf16) (B : Vec Ideal S256x2048 .bf16) (i : Fin 256) (j : Fin 2048) :
    matmul dot_S256x256_S256x2048_S256x2048_1_0_0_1_n_n none
        (shapeCast S256x256 A shapeCasts_S1x256x256_S256x256 : FVec Ideal S256x256 .bf16)
        (shapeCast S256x2048 B shapeCasts_S256x2048_S256x2048 : FVec Ideal S256x2048 .bf16)
        (constant S256x2048 .f32 0x00000000#32) (ix2 i j)
      = ∑ k : Fin 256, A (ix3 (0 : Fin 1) i k) * B (ix2 k j) := by
  refine (Ideal.matmul_plain_apply (M := 256) (K := 256) (N := 2048) none _ _ _ i j).trans ?_
  rw [show (constant S256x2048 .f32 0x00000000#32 : FVec Ideal S256x2048 .f32) (ix2 i j) = 0 from Ideal.ofBits_zero_f32, zero_add, shapeCast_self]
  refine Finset.sum_congr rfl fun k _ => congrArg (· * B (ix2 k j)) ?_
  exact shapeCast_1ab_ab_apply A _ i k

variable (m : (ℓ : Loc nD τ sig) → Buf (Elt Ideal) ℓ) (ρ : Dev nD → PrngReg)

/-- Element (`i`, `k`) of the rows device `p` stages for device `c`. -/
def rowAt (c p : Dev nD) (i k : Fin 256) : EReal := stageV m ρ p (ix3 c i k)
/-- Element (`k`, `j`) of block `p` of the rows of `w` on device `c`. -/
def colAt (c p : Dev nD) (k : Fin 256) (j : Fin 2048) : EReal := wstg m ρ c (ix2 (rowOf p k) j)

/-- The product of device `p`'s rows for `c` with the rows of `w` they meet, at element (`i`, `j`). -/
def part (c p : Dev nD) (i : Fin 256) (j : Fin 2048) : EReal :=
  ∑ k : Fin 256, rowAt m ρ c p i k * colAt m ρ c p k j

/-- Device `c`'s result, read at an element: the sum over the eight devices, or 0 where that is negative. -/
theorem outAt_apply (c : Dev nD) (i : Fin 256) (j : Fin 2048) :
    @Eq EReal (outAt m ρ c (ix2 i j)) (max (∑ p : Fin 8, part m ρ c p i j) 0) := by
  have hp : ∀ r : Fin 8, matmul dot_S256x256_S256x2048_S256x2048_1_0_0_1_n_n none
        (shapeCast S256x256 (blkA m ρ c r) shapeCasts_S1x256x256_S256x256 : FVec Ideal S256x256 .bf16)
        (shapeCast S256x2048 (blkW m ρ c r) shapeCasts_S256x2048_S256x2048 : FVec Ideal S256x2048 .bf16)
        (constant S256x2048 .f32 0x00000000#32) (ix2 i j) = part m ρ c (par c r) i j := fun r => prod_apply _ _ i j
  rw [← sum_masks c fun p => part m ρ c p i j]
  unfold outAt k0_pay17 k0_pay16 k0_pay15 k0_pay14 k0_pay13 k0_pay12 k0_pay11 k0_pay10
  simp only [maximumf_apply, addf_apply, broadcast_apply, hp]
  exact congrArg (max _) Ideal.ofBits_zero_f32

/-! ## The reference's value -/

/-- The whole result: every element of the product, or 0 where it is negative. -/
def whole (x w : FVec Ideal ⟨2, ![2048, 2048]⟩ .bf16) : FVec Ideal ⟨2, ![2048, 2048]⟩ .f32 :=
  fun i => max (∑ k : Fin 2048, x (ix2 (i 0) k) * w (ix2 k (i 1))) 0

/-- The reference's operations compute `whole`. -/
theorem ref_whole (x w : FVec Ideal Cert.ReferenceIdeal.S2048x2048 .bf16) :
    maximumf (extf .f32 (truncf .bf16 (Host.dotGeneral Cert.ReferenceIdeal.dot_S2048x2048_S2048x2048_S2048x2048_1_0_0_1_n_n none x w)
        Cert.ReferenceIdeal.Facts₀.bitsLt_bf16_f32) Cert.ReferenceIdeal.Facts₀.bitsLt_bf16_f32)
      (broadcastInDim Cert.ReferenceIdeal.S2048x2048 ![] Cert.ReferenceIdeal.Facts₀.bcast_S_S2048x2048 (constant Cert.ReferenceIdeal.S_ .f32 0x00000000#32))
      = whole x w := by
  funext i
  obtain ⟨a, b, rfl⟩ : ∃ a b, i = ix2 a b := ⟨i 0, i 1, eq_ix2 i⟩
  have h0 : (broadcastInDim Cert.ReferenceIdeal.S2048x2048 ![] Cert.ReferenceIdeal.Facts₀.bcast_S_S2048x2048
      (constant Cert.ReferenceIdeal.S_ .f32 0x00000000#32 : FVec Ideal Cert.ReferenceIdeal.S_ .f32)) (ix2 a b) = 0 :=
    (ValueIdx.broadcastInDim_scalar_apply _ _ _).trans Ideal.ofBits_zero_f32
  have hd := StackMember.dotGeneral_plain_apply (m := 2048) (n := 2048) (k := 2048) none x w a b
  exact congrArg₂ max hd h0

/-! ## The two values agree -/

/-- When every device's column block is its block of `x` and its `w` is `w`, device `c`'s result is its block of rows
    of the whole result. -/
theorem outAt_block (x w : FVec Ideal ⟨2, ![2048, 2048]⟩ .bf16)
    (hx : ∀ c : Dev nD, m ((c : Thread nD τ).loc main_arg0) = Layout.block ⟨2, ![2048, 256]⟩ ⟨2, ![2048, 2048]⟩ 1 8 c x)
    (hw : ∀ c : Dev nD, m ((c : Thread nD τ).loc main_arg1) = w) (c : Dev nD) :
    outAt m ρ c = Layout.block ⟨2, ![256, 2048]⟩ ⟨2, ![2048, 2048]⟩ 0 8 c (whole x w) := by
  funext y
  obtain ⟨i, j, rfl⟩ : ∃ i j, y = ix2 i j := ⟨y 0, y 1, eq_ix2 y⟩
  have hst : ∀ (p : Dev nD) (k : Fin 256), stageV m ρ p (ix3 c i k) = x (ix2 (rowOf c i) (rowOf p k)) := fun p k => by
    show xstg m ρ p (ix2 (rowOf c i) k) = _
    rw [xstg_eq, hx p, Layout.block_apply]
    congr 1
    funext a
    apply Fin.ext
    match a with
    | ⟨0, _⟩ => rfl
    | ⟨1, _⟩ => exact congrArg (· + k.val) (Nat.mul_comm p.val 256)
  have hrow : ∀ h : Layout.Tiles ⟨2, ![256, 2048]⟩ ⟨2, ![2048, 2048]⟩ 0 8, h.idx c (ix2 i j) = ix2 (rowOf c i) j := fun h => by
    funext a
    apply Fin.ext
    match a with
    | ⟨0, _⟩ => exact congrArg (· + i.val) (Nat.mul_comm c.val 256)
    | ⟨1, _⟩ => rfl
  refine (outAt_apply m ρ c i j).trans ?_
  rw [Layout.block_apply, hrow]
  show _ = max (∑ k : Fin 2048, x (ix2 (rowOf c i) k) * w (ix2 k j)) 0
  rw [sum_rowOf]
  refine congrArg (max · 0) (Finset.sum_congr rfl fun p _ => Finset.sum_congr rfl fun k _ => ?_)
  unfold rowAt colAt
  rw [hst p k, wstg_eq, hw c]

end Cert.KernelIdealProof

end
-- ==== Proof.lean ====
/-
The certificate's claims: the kernel, its idealization and the reference run and keep their arguments, and in exact
arithmetic every device's result is its block of the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelRun
public import proofs.«01_k».proof.Proof.KernelIdealValue
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The kernel runs, keeps its arguments and ends with every counter at zero. -/
theorem frame_kernel : Cert.quiescent_Kernel := fun m ρ _ =>
  (θ_run Cert.Kernel.defs _ _).mono (fun _ h => ⟨fun c => ⟨(h.1 c (0 : Fin 3)).trans (Cert.KernelProof.finalA_x m ρ c),
      (h.1 c (1 : Fin 3)).trans (Cert.KernelProof.finalA_w m ρ c)⟩, h.2⟩)
    (Cert.KernelProof.run_main (F := Bits) m ρ)

/-- The same of its idealization. -/
theorem frame_kernelIdeal : Cert.quiescent_KernelIdeal := fun m ρ _ =>
  (θ_run Cert.KernelIdeal.defs _ _).mono (fun _ h => ⟨fun c => ⟨(h.1 c (0 : Fin 3)).trans (Cert.KernelIdealProof.finalA_x m ρ c),
      (h.1 c (1 : Fin 3)).trans (Cert.KernelIdealProof.finalA_w m ρ c)⟩, h.2⟩)
    (Cert.KernelIdealProof.run_main (F := Ideal) m ρ)

/-- The reference runs and keeps its arguments; it declares no semaphore. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- In exact arithmetic, from memories where every device holds its column block of `x` and all of `w`, every device's
    result is its block of rows of the reference's. -/
theorem value : Cert.algebraic_KernelIdeal_ReferenceIdeal := fun m ρ m' ρ' _ hag =>
  ⟨Cert.KernelIdealProof.whole _ _,
    (θ_run Cert.KernelIdeal.defs _ _).mono (fun _ h c =>
        ⟨((h.1 c (2 : Fin 3)).trans (Cert.KernelIdealProof.finalA_o m ρ c)).trans
          (Cert.KernelIdealProof.outAt_block m ρ _ _ (fun c => (hag c).1) (fun c => (hag c).2) c),
        (h.1 c (0 : Fin 3)).trans (Cert.KernelIdealProof.finalA_x m ρ c),
        (h.1 c (1 : Fin 3)).trans (Cert.KernelIdealProof.finalA_w m ρ c)⟩)
      (Cert.KernelIdealProof.run_main (F := Ideal) m ρ),
    (θ_run Cert.ReferenceIdeal.defs _ _).mono (fun _ h => ⟨(h 0).1.trans (Cert.KernelIdealProof.ref_whole _ _), (h 0).2⟩)
      (Cert.ReferenceIdeal.Value.run (F := Ideal) m' ρ')⟩

/-- Every claim of the certificate. -/
theorem claim : Cert.Claim := ⟨Cert.Kernel.Gen.facts, Cert.KernelIdeal.Gen.facts, Cert.ReferenceIdeal.Gen.facts,
  frame_kernel, frame_kernelIdeal, frame_referenceIdeal, trivial, value⟩

end Cert.Proof

end
